-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S1024x1024 : Shape := ⟨2, ![1024, 1024]⟩
abbrev S1024x2048 : Shape := ⟨2, ![1024, 2048]⟩
abbrev S2x1024x1024 : Shape := ⟨3, ![2, 1024, 1024]⟩
abbrev S4x1024x1024 : Shape := ⟨3, ![4, 1024, 1024]⟩
abbrev S2 : Shape := ⟨1, ![2]⟩
abbrev S4 : Shape := ⟨1, ![4]⟩
abbrev S_ : Shape := ⟨0, ![]⟩
abbrev S1x1024x1024 : Shape := ⟨3, ![1, 1024, 1024]⟩

abbrev nBuf : Space → Nat
  | .hbm => 5
  | .vmem => 8
  | .smem => 2
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .fp8e4m3⟩
  | .local _ .vmem, ⟨1, _⟩ => ⟨S1024x1024, .f32⟩
  | .local _ .vmem, ⟨2, _⟩ => ⟨S1024x8192, .fp8e4m3⟩
  | .local _ .vmem, ⟨3, _⟩ => ⟨S1024x2048, .f32⟩
  | .local _ .vmem, ⟨4, _⟩ => ⟨S2x1024x1024, .bf16⟩
  | .local _ .vmem, ⟨5, _⟩ => ⟨S2x1024x1024, .bf16⟩
  | .local _ .vmem, ⟨6, _⟩ => ⟨S4x1024x1024, .bf16⟩
  | .local _ .vmem, ⟨7, _⟩ => ⟨S4x1024x1024, .bf16⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 3 17 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_11 : BitVec 32 := 1#32
  let v18 : BitVec 32 := Scalar.muli v7 c1_i32_11
  let v19 : BitVec 32 := Scalar.addi c0_i32 v18
  v19.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_13 : BitVec 32 := 1#32
  let v20 : BitVec 32 := Scalar.muli v4 c1_i32_13
  let v21 : BitVec 32 := Scalar.addi c0_i32_14 v20
  v21.toNat
def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c3_i32
  let c4_i32_6 : BitVec 32 := 4#32
  let v12 : BitVec 32 := Scalar.remsi v11 c4_i32_6
  let c1024_i32 : BitVec 32 := 1024#32
  let v22 : BitVec 32 := Scalar.muli v12 c1024_i32
  let c0_i32_16 : BitVec 32 := 0#32
  ![v22.toNat, 0]
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c3_i32
  let c4_i32_6 : BitVec 32 := 4#32
  let v12 : BitVec 32 := Scalar.remsi v11 c4_i32_6
  let c1024_i32_23 : BitVec 32 := 1024#32
  let v29 : BitVec 32 := Scalar.muli v12 c1024_i32_23
  let v30 : Index := Scalar.indexCast v29
  let c0_24 : Index := 0#32
  ![v30.toNat, 0]
def k0_off3 (d0 : Dev nD) (c0_i32_44 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c0_i32_44
  let c1_i32_45 : BitVec 32 := 1#32
  let v57 : BitVec 32 := Scalar.addi v56 c1_i32_45
  let c4_i32_46 : BitVec 32 := 4#32
  let v58 : BitVec 32 := Scalar.remsi v57 c4_i32_46
  let c1024_i32_51 : BitVec 32 := 1024#32
  let v64 : BitVec 32 := Scalar.muli v58 c1024_i32_51
  let v65 : Index := Scalar.indexCast v64
  let c0_52 : Index := 0#32
  ![v65.toNat, 0]
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_65 : BitVec 32 := 1#32
  let v77 : BitVec 32 := Scalar.muli v4 c1_i32_65
  let v78 : BitVec 32 := Scalar.addi c0_i32_66 v77
  v78.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_75 : BitVec 32 := 1#32
  let v87 : BitVec 32 := Scalar.muli v7 c1_i32_75
  let v88 : BitVec 32 := Scalar.addi c0_i32_76 v87
  v88.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_87 : BitVec 32 := 1024#32
  let v106 : BitVec 32 := Scalar.muli v2 c1024_i32_87
  let c0_i32_88 : BitVec 32 := 0#32
  ![v106.toNat, 0]
def k0_dev5 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_118 : BitVec 32 := 1#32
  let v138 : BitVec 32 := Scalar.muli v4 c1_i32_118
  let v139 : BitVec 32 := Scalar.addi c0_i32_119 v138
  v139.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_128 : BitVec 32 := 1#32
  let v148 : BitVec 32 := Scalar.muli v7 c1_i32_128
  let v149 : BitVec 32 := Scalar.addi c0_i32_129 v148
  v149.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_138 : BitVec 32 := 1024#32
  let v162 : BitVec 32 := Scalar.muli v2 c1024_i32_138
  let v163 : Index := Scalar.indexCast v162
  let c0_139 : Index := 0#32
  ![v163.toNat, 0]
def k0_dev7 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_182 : BitVec 32 := 1#32
  let v204 : BitVec 32 := Scalar.muli v7 c1_i32_182
  let v205 : BitVec 32 := Scalar.addi c0_i32_183 v204
  v205.toNat
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_185 : BitVec 32 := 1#32
  let v206 : BitVec 32 := Scalar.muli v4 c1_i32_185
  let v207 : BitVec 32 := Scalar.addi c0_i32_186 v206
  v207.toNat
def k0_dev9 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_215 : BitVec 32 := 1#32
  let v230 : BitVec 32 := Scalar.muli v4 c1_i32_215
  let v231 : BitVec 32 := Scalar.addi c0_i32_216 v230
  v231.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_225 : BitVec 32 := 1#32
  let v240 : BitVec 32 := Scalar.muli v7 c1_i32_225
  let v241 : BitVec 32 := Scalar.addi c0_i32_226 v240
  v241.toNat
def k0_dev11 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_273 : BitVec 32 := 1#32
  let v287 : BitVec 32 := Scalar.muli v7 c1_i32_273
  let v288 : BitVec 32 := Scalar.addi c0_i32_274 v287
  v288.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_276 : BitVec 32 := 1#32
  let v289 : BitVec 32 := Scalar.muli v4 c1_i32_276
  let v290 : BitVec 32 := Scalar.addi c0_i32_277 v289
  v290.toNat
def k0_dev13 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_306 : BitVec 32 := 1#32
  let v313 : BitVec 32 := Scalar.muli v4 c1_i32_306
  let v314 : BitVec 32 := Scalar.addi c0_i32_307 v313
  v314.toNat
def k0_dev14 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_316 : BitVec 32 := 1#32
  let v323 : BitVec 32 := Scalar.muli v7 c1_i32_316
  let v324 : BitVec 32 := Scalar.addi c0_i32_317 v323
  v324.toNat
def k0_dev15 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_363 : BitVec 32 := 1#32
  let v370 : BitVec 32 := Scalar.muli v7 c1_i32_363
  let v371 : BitVec 32 := Scalar.addi c0_i32_364 v370
  v371.toNat
def k0_dev16 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_366 : BitVec 32 := 1#32
  let v372 : BitVec 32 := Scalar.muli v4 c1_i32_366
  let v373 : BitVec 32 := Scalar.addi c0_i32_367 v372
  v373.toNat
def k0_dev17 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_400 : BitVec 32 := 1#32
  let v396 : BitVec 32 := Scalar.muli v4 c1_i32_400
  let v397 : BitVec 32 := Scalar.addi c0_i32_401 v396
  v397.toNat
def k0_dev18 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_410 : BitVec 32 := 1#32
  let v406 : BitVec 32 := Scalar.muli v7 c1_i32_410
  let v407 : BitVec 32 := Scalar.addi c0_i32_411 v406
  v407.toNat
def k0_dev19 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_457 : BitVec 32 := 1#32
  let v453 : BitVec 32 := Scalar.muli v7 c1_i32_457
  let v454 : BitVec 32 := Scalar.addi c0_i32_458 v453
  v454.toNat
def k0_dev20 (d0 : Dev nD) : Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_460 : BitVec 32 := 1#32
  let v455 : BitVec 32 := Scalar.muli v4 c1_i32_460
  let v456 : BitVec 32 := Scalar.addi c0_i32_461 v455
  v456.toNat
def k0_dev21 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_494 : BitVec 32 := 1#32
  let v479 : BitVec 32 := Scalar.muli v4 c1_i32_494
  let v480 : BitVec 32 := Scalar.addi c0_i32_495 v479
  v480.toNat
def k0_dev22 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_504 : BitVec 32 := 1#32
  let v489 : BitVec 32 := Scalar.muli v7 c1_i32_504
  let v490 : BitVec 32 := Scalar.addi c0_i32_505 v489
  v490.toNat
def k0_dev23 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_562 : BitVec 32 := 1#32
  let v541 : BitVec 32 := Scalar.muli v4 c1_i32_562
  let v542 : BitVec 32 := Scalar.addi c0_i32_563 v541
  v542.toNat
def k0_dev24 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_572 : BitVec 32 := 1#32
  let v551 : BitVec 32 := Scalar.muli v7 c1_i32_572
  let v552 : BitVec 32 := Scalar.addi c0_i32_573 v551
  v552.toNat
def k0_dev25 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_629 : BitVec 32 := 1#32
  let v602 : BitVec 32 := Scalar.muli v4 c1_i32_629
  let v603 : BitVec 32 := Scalar.addi c0_i32_630 v602
  v603.toNat
def k0_dev26 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_639 : BitVec 32 := 1#32
  let v612 : BitVec 32 := Scalar.muli v7 c1_i32_639
  let v613 : BitVec 32 := Scalar.addi c0_i32_640 v612
  v613.toNat
def k0_dev27 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_677 : BitVec 32 := 1#32
  let v649 : BitVec 32 := Scalar.muli v7 c1_i32_677
  let v650 : BitVec 32 := Scalar.addi c0_i32_678 v649
  v650.toNat
def k0_dev28 (d0 : Dev nD) : Nat :=
  let c0_i32_681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_680 : BitVec 32 := 1#32
  let v651 : BitVec 32 := Scalar.muli v4 c1_i32_680
  let v652 : BitVec 32 := Scalar.addi c0_i32_681 v651
  v652.toNat
def k0_dev29 (d0 : Dev nD) : Nat :=
  let c0_i32_723 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_722 : BitVec 32 := 1#32
  let v699 : BitVec 32 := Scalar.muli v7 c1_i32_722
  let v700 : BitVec 32 := Scalar.addi c0_i32_723 v699
  v700.toNat
def k0_dev30 (d0 : Dev nD) : Nat :=
  let c0_i32_726 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_725 : BitVec 32 := 1#32
  let v701 : BitVec 32 := Scalar.muli v4 c1_i32_725
  let v702 : BitVec 32 := Scalar.addi c0_i32_726 v701
  v702.toNat
def k0_dev31 (d0 : Dev nD) : Nat :=
  let c0_i32_780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_779 : BitVec 32 := 1#32
  let v760 : BitVec 32 := Scalar.muli v7 c1_i32_779
  let v761 : BitVec 32 := Scalar.addi c0_i32_780 v760
  v761.toNat
def k0_dev32 (d0 : Dev nD) : Nat :=
  let c0_i32_783 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_782 : BitVec 32 := 1#32
  let v762 : BitVec 32 := Scalar.muli v4 c1_i32_782
  let v763 : BitVec 32 := Scalar.addi c0_i32_783 v762
  v763.toNat
def k0_dev33 (d0 : Dev nD) : Nat :=
  let c0_i32_817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_816 : BitVec 32 := 1#32
  let v786 : BitVec 32 := Scalar.muli v4 c1_i32_816
  let v787 : BitVec 32 := Scalar.addi c0_i32_817 v786
  v787.toNat
def k0_dev34 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_826 : BitVec 32 := 1#32
  let v796 : BitVec 32 := Scalar.muli v7 c1_i32_826
  let v797 : BitVec 32 := Scalar.addi c0_i32_827 v796
  v797.toNat
def k0_dev35 (d0 : Dev nD) : Nat :=
  let c0_i32_875 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_874 : BitVec 32 := 1#32
  let v843 : BitVec 32 := Scalar.muli v7 c1_i32_874
  let v844 : BitVec 32 := Scalar.addi c0_i32_875 v843
  v844.toNat
def k0_dev36 (d0 : Dev nD) : Nat :=
  let c0_i32_878 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_877 : BitVec 32 := 1#32
  let v845 : BitVec 32 := Scalar.muli v4 c1_i32_877
  let v846 : BitVec 32 := Scalar.addi c0_i32_878 v845
  v846.toNat
def k0_dev37 (d0 : Dev nD) : Nat :=
  let c0_i32_912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_911 : BitVec 32 := 1#32
  let v869 : BitVec 32 := Scalar.muli v4 c1_i32_911
  let v870 : BitVec 32 := Scalar.addi c0_i32_912 v869
  v870.toNat
def k0_dev38 (d0 : Dev nD) : Nat :=
  let c0_i32_922 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_921 : BitVec 32 := 1#32
  let v879 : BitVec 32 := Scalar.muli v7 c1_i32_921
  let v880 : BitVec 32 := Scalar.addi c0_i32_922 v879
  v880.toNat
def k0_dev39 (d0 : Dev nD) : Nat :=
  let c0_i32_1001 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1000 : BitVec 32 := 1#32
  let v948 : BitVec 32 := Scalar.muli v4 c1_i32_1000
  let v949 : BitVec 32 := Scalar.addi c0_i32_1001 v948
  v949.toNat
def k0_dev40 (d0 : Dev nD) : Nat :=
  let c0_i32_1011 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1010 : BitVec 32 := 1#32
  let v958 : BitVec 32 := Scalar.muli v7 c1_i32_1010
  let v959 : BitVec 32 := Scalar.addi c0_i32_1011 v958
  v959.toNat
def k0_dev41 (d0 : Dev nD) : Nat :=
  let c0_i32_1090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1089 : BitVec 32 := 1#32
  let v1027 : BitVec 32 := Scalar.muli v4 c1_i32_1089
  let v1028 : BitVec 32 := Scalar.addi c0_i32_1090 v1027
  v1028.toNat
def k0_dev42 (d0 : Dev nD) : Nat :=
  let c0_i32_1100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1099 : BitVec 32 := 1#32
  let v1037 : BitVec 32 := Scalar.muli v7 c1_i32_1099
  let v1038 : BitVec 32 := Scalar.addi c0_i32_1100 v1037
  v1038.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Hold.lean ====
/-
Holding what a view reads: the assertion `hold c v V` that device-local memory under the view `v` is held outright
and reads `V`, `holdAny c v` that it is held at unknown contents, and the rules for loads, stores, reshapes,
splitting a view into rectangles and joining them again, and local transfers, all stated over these assertions.
-/
module

public import Idealize.ShloMosaic.Lib.Pipeline.Launch
public import Idealize.ShloMosaic.Lib.Pipeline.Kit
public import Idealize.ShloMosaic.Lib.Pipeline.TalkSites
public import Idealize.ShloMosaic.Lib.Transfers
public import Idealize.ShloMosaic.Lib.Release
public import Idealize.ShloMosaic.Lib.ViewIndex
public import Idealize.ShloMosaic.Lib.Tactic

@[expose] public section

noncomputable section

namespace Cert.Hold

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type}
variable {sp sp' : Space} {s s' : Shape} {e : EltTy}

local notation "𝕄" => MT nD τ sig Ix Val Name U Lvl

/-- Assertions that entail each other are equal. -/
theorem eq_of_ent {M : Type} [URA M] {P Q : sProp M} (h1 : P ⊢ Q) (h2 : Q ⊢ P) : P = Q := BI.Entails.antisymm h1 h2

/-- The elements under the view are held outright, and the view reads `V`. -/
def hold (c : Thread nD τ) (v : View sig c.2.kind sp s e) (V : s.Idx → Val e) : sProp 𝕄 :=
  iprop(∃ f : Buf Val (v.loc c), ⌜v.read Val f = V⌝ ∗ (v.loc c ↦[v.set]{fullShare} f))

/-- The elements under the view are held outright, at any contents. -/
abbrev holdAny (c : Thread nD τ) (v : View sig c.2.kind sp s e) : sProp 𝕄 :=
  Release.slot (v.loc c) v.set

instance hold_storable (c : Thread nD τ) (v : View sig c.2.kind sp s e) (V : s.Idx → Val e) :
    Storable (upEmb : UEmb _ 𝕄) (hold c v V : sProp 𝕄) := by
  unfold hold; infer_instance

/-- Held contents may be forgotten. -/
theorem hold_any (c : Thread nD τ) (v : View sig c.2.kind sp s e) (V : s.Idx → Val e) :
    (hold c v V : sProp 𝕄) ⊢ holdAny c v := by
  unfold hold holdAny Release.slot
  iintro ⟨%f, %hf, Hf⟩
  iexists f; iexact Hf

/-- Elements at known contents are held at what the view reads of them. -/
theorem hold_intro (c : Thread nD τ) (v : View sig c.2.kind sp s e) {V : s.Idx → Val e} (f : Buf Val (v.loc c))
    (hf : v.read Val f = V) : (v.loc c ↦[v.set]{fullShare} f : sProp 𝕄) ⊢ hold c v V := by
  unfold hold
  iintro Hf
  iexists f
  isplitr
  · ipureintro; exact hf
  · iexact Hf

/-- Elements held at unknown contents read something. -/
theorem any_hold (c : Thread nD τ) (v : View sig c.2.kind sp s e) :
    (holdAny c v : sProp 𝕄) ⊢ iprop(∃ V, hold c v V) := by
  unfold holdAny Release.slot
  iintro ⟨%f, Hf⟩
  iexists (v.read Val f)
  iapply (hold_intro c v f rfl) $$ Hf

/-- A reshaped view holds the same elements, read at the matched indices. -/
theorem hold_reshape (c : Thread nD τ) (v : View sig c.2.kind sp s e) (h : s'.numel = s.numel) (V : s.Idx → Val e) :
    (hold c v V : sProp 𝕄) ⊢ hold c (v.reshape s' h) (fun x => V (Shape.reshapeEquiv h x)) := by
  unfold hold
  iintro ⟨%f, %hf, Hf⟩
  iexists f
  isplitr
  · ipureintro
    funext x
    exact congrFun hf (Shape.reshapeEquiv h x)
  · ihave H := (Entails.of_eq (congrArg (fun S => (v.loc c ↦[S]{fullShare} f : sProp 𝕄)) (View.set_reshape v h).symm)) $$ Hf
    iexact H

/-- And back: a hold of the reshaped view is a hold of the view, read through the inverse matching. -/
theorem hold_unreshape (c : Thread nD τ) (v : View sig c.2.kind sp s e) (h : s'.numel = s.numel) (V : s.Idx → Val e) :
    (hold c (v.reshape s' h) (fun x => V (Shape.reshapeEquiv h x)) : sProp 𝕄) ⊢ hold c v V := by
  unfold hold
  iintro ⟨%f, %hf, Hf⟩
  iexists f
  isplitr
  · ipureintro
    funext x
    have := congrFun hf ((Shape.reshapeEquiv h).symm x)
    rw [Equiv.apply_symm_apply] at this
    rw [← this]
    show v.read Val f x = v.read Val f (Shape.reshapeEquiv h ((Shape.reshapeEquiv h).symm x))
    rw [Equiv.apply_symm_apply]
  · ihave H := (Entails.of_eq (congrArg (fun S => (v.loc c ↦[S]{fullShare} f : sProp 𝕄)) (View.set_reshape v h))) $$ Hf
    iexact H

/-- The unknown-contents form of a reshape, both ways. -/
theorem any_reshape (c : Thread nD τ) (v : View sig c.2.kind sp s e) (h : s'.numel = s.numel) :
    (holdAny c (v.reshape s' h) : sProp 𝕄) = holdAny c v := by
  unfold holdAny Release.slot
  rw [View.set_reshape]

section Split

variable {n : Nat}

/-- A view held outright is its rectangles held outright, when they are pairwise disjoint and cover it. -/
theorem hold_split (c : Thread nD τ) (v : View sig c.2.kind sp s e) (R : Fin n → Rect s)
    (hd : ∀ i j, i ≠ j → Disjoint (R i).set (R j).set) (hc : ∀ x : s.Idx, ∃ i, x ∈ (R i).set) (V : s.Idx → Val e) :
    (hold c v V : sProp 𝕄) ⊢ bigSep Finset.univ fun i => hold c (v.slice (R i)) (fun x => V ((R i).emb x)) := by
  have hset : v.set = Finset.univ.biUnion fun i => (v.slice (R i)).set := by
    ext y
    simp only [Finset.mem_biUnion, Finset.mem_univ, true_and]
    constructor
    · intro hy
      obtain ⟨x, -, rfl⟩ := Finset.mem_map.mp hy
      obtain ⟨i, hi⟩ := hc x
      exact ⟨i, by rw [View.set_slice]; exact Finset.mem_map_of_mem _ hi⟩
    · rintro ⟨i, hi⟩
      exact View.set_slice_subset v (R i) hi
  have hdis : ∀ i ∈ (Finset.univ : Finset (Fin n)), ∀ j ∈ (Finset.univ : Finset (Fin n)), i ≠ j →
      Disjoint (v.slice (R i)).set (v.slice (R j)).set := fun i _ j _ h => View.disjoint_slice (hd i j h)
  unfold hold
  iintro ⟨%f, %hf, Hf⟩
  subst hf
  ihave H := (Entails.of_eq (congrArg (fun S => (v.loc c ↦[S]{fullShare} f : sProp 𝕄)) hset)) $$ Hf
  ihave H2 := (Entails.of_eq (pointsTo_biUnion (ℓ := v.loc c) (q := fullShare) (f := f) Finset.univ (fun i => (v.slice (R i)).set) hdis)) $$ H
  have hm : (bigSep Finset.univ (fun i => (v.loc c ↦[(v.slice (R i)).set]{fullShare} f)) : sProp 𝕄)
      ⊢ bigSep Finset.univ fun i => hold c (v.slice (R i)) (fun x => v.read Val f ((R i).emb x)) :=
    bigSep_mono fun i _ => hold_intro c (v.slice (R i)) f rfl
  iapply hm $$ H2

/-- Disjoint rectangles that cover a view, each held outright, are the view held outright at any contents the
    rectangles' contents agree with. -/
theorem hold_join (c : Thread nD τ) (v : View sig c.2.kind sp s e) (f₀ : Buf Val (v.loc c)) (R : Fin n → Rect s)
    (hd : ∀ i j, i ≠ j → Disjoint (R i).set (R j).set) (hc : ∀ x : s.Idx, ∃ i, x ∈ (R i).set) (V : s.Idx → Val e) :
    (bigSep Finset.univ fun i => hold c (v.slice (R i)) (fun x => V ((R i).emb x))) ⊢ (hold c v V : sProp 𝕄) := by
  have hset : v.set = Finset.univ.biUnion fun i => (v.slice (R i)).set := by
    ext y
    simp only [Finset.mem_biUnion, Finset.mem_univ, true_and]
    constructor
    · intro hy
      obtain ⟨x, -, rfl⟩ := Finset.mem_map.mp hy
      obtain ⟨i, hi⟩ := hc x
      exact ⟨i, by rw [View.set_slice]; exact Finset.mem_map_of_mem _ hi⟩
    · rintro ⟨i, hi⟩
      exact View.set_slice_subset v (R i) hi
  have hdis : ∀ i ∈ (Finset.univ : Finset (Fin n)), ∀ j ∈ (Finset.univ : Finset (Fin n)), i ≠ j →
      Disjoint (v.slice (R i)).set (v.slice (R j)).set := fun i _ j _ h => View.disjoint_slice (hd i j h)
  have hpi : (bigSep Finset.univ fun i => hold c (v.slice (R i)) (fun x => V ((R i).emb x)) : sProp 𝕄)
      ⊢ iprop(∃ g : (i : Fin n) → Buf Val (v.loc c), bigSep Finset.univ fun i =>
          iprop(⌜(v.slice (R i)).read Val (g i) = fun x => V ((R i).emb x)⌝ ∗ (v.loc c ↦[(v.slice (R i)).set]{fullShare} g i))) :=
    haveI : ∀ i : Fin n, Nonempty (Buf Val ((v.slice (R i)).loc c)) := fun _ => ⟨f₀⟩
    bigSep_exists_pi Finset.univ _
  iintro H
  ihave H1 := hpi $$ H
  icases H1 with ⟨%g, H1⟩
  ihave H2 := (bigSep_pure_sep Finset.univ (fun i => (v.slice (R i)).read Val (g i) = fun x => V ((R i).emb x)) _) $$ H1
  icases H2 with ⟨%hp, H2⟩
  ihave H3 := (pointsTo_biUnion_join (ℓ := v.loc c) (q := fullShare) Finset.univ (fun i => (v.slice (R i)).set) g f₀ hdis) $$ H2
  icases H3 with ⟨%h, %hh, H3⟩
  ihave H4 := (Entails.of_eq (congrArg (fun S => (v.loc c ↦[S]{fullShare} h : sProp 𝕄)) hset.symm)) $$ H3
  iapply (hold_intro c v h ?_) $$ H4
  funext x
  obtain ⟨i, hi⟩ := hc x
  obtain ⟨y, rfl⟩ := (R i).exists_idx_of_mem hi
  have h1 := congrFun (hp i (Finset.mem_univ i)) y
  have h2 : (v.slice (R i)).read Val h y = (v.slice (R i)).read Val (g i) y :=
    View.read_congr_at y (hh i (Finset.mem_univ i) _ (View.emb_mem_set _ y))
  exact h2.trans h1

/-- Disjoint rectangles that cover a view, each held at unknown contents, are the view held at unknown contents. -/
theorem any_join (c : Thread nD τ) (v : View sig c.2.kind sp s e) (f₀ : Buf Val (v.loc c)) (R : Fin n → Rect s)
    (hd : ∀ i j, i ≠ j → Disjoint (R i).set (R j).set) (hc : ∀ x : s.Idx, ∃ i, x ∈ (R i).set) :
    (bigSep Finset.univ fun i => holdAny c (v.slice (R i))) ⊢ (holdAny c v : sProp 𝕄) := by
  have hset : v.set = Finset.univ.biUnion fun i => (v.slice (R i)).set := by
    ext y
    simp only [Finset.mem_biUnion, Finset.mem_univ, true_and]
    constructor
    · intro hy
      obtain ⟨x, -, rfl⟩ := Finset.mem_map.mp hy
      obtain ⟨i, hi⟩ := hc x
      exact ⟨i, by rw [View.set_slice]; exact Finset.mem_map_of_mem _ hi⟩
    · rintro ⟨i, hi⟩
      exact View.set_slice_subset v (R i) hi
  have hdis : ∀ i ∈ (Finset.univ : Finset (Fin n)), ∀ j ∈ (Finset.univ : Finset (Fin n)), i ≠ j →
      Disjoint (v.slice (R i)).set (v.slice (R j)).set := fun i _ j _ h => View.disjoint_slice (hd i j h)
  have hpi : (bigSep Finset.univ fun i => holdAny c (v.slice (R i)) : sProp 𝕄)
      ⊢ iprop(∃ g : (i : Fin n) → Buf Val (v.loc c), bigSep Finset.univ fun i => (v.loc c ↦[(v.slice (R i)).set]{fullShare} g i)) :=
    haveI : ∀ i : Fin n, Nonempty (Buf Val ((v.slice (R i)).loc c)) := fun _ => ⟨f₀⟩
    bigSep_exists_pi Finset.univ _
  iintro H
  ihave H1 := hpi $$ H
  icases H1 with ⟨%g, H1⟩
  ihave H3 := (pointsTo_biUnion_join (ℓ := v.loc c) (q := fullShare) Finset.univ (fun i => (v.slice (R i)).set) g f₀ hdis) $$ H1
  icases H3 with ⟨%h, %hh, H3⟩
  ihave H4 := (Entails.of_eq (congrArg (fun S => (v.loc c ↦[S]{fullShare} h : sProp 𝕄)) hset.symm)) $$ H3
  unfold holdAny Release.slot
  iexists h
  iexact H4

/-- A view held at unknown contents is its rectangles held at unknown contents. -/
theorem any_split (c : Thread nD τ) (v : View sig c.2.kind sp s e) (R : Fin n → Rect s)
    (hd : ∀ i j, i ≠ j → Disjoint (R i).set (R j).set) (hc : ∀ x : s.Idx, ∃ i, x ∈ (R i).set) :
    (holdAny c v : sProp 𝕄) ⊢ bigSep Finset.univ fun i => holdAny c (v.slice (R i)) := by
  iintro H
  ihave H1 := (any_hold c v) $$ H
  icases H1 with ⟨%V, H1⟩
  ihave H2 := (hold_split c v R hd hc V) $$ H1
  have hm : (bigSep Finset.univ (fun i => hold c (v.slice (R i)) (fun x => V ((R i).emb x))) : sProp 𝕄)
      ⊢ bigSep Finset.univ fun i => holdAny c (v.slice (R i)) :=
    bigSep_mono fun i _ => hold_any c (v.slice (R i)) _
  iapply hm $$ H2

end Split

/-- A rectangle at offset zero with all of the view's extent is the view. -/
theorem hold_full (c : Thread nD τ) (v : View sig c.2.kind sp s e) (off : Fin s.rank → Nat) (hoff : ∀ a, off a = 0)
    (inb : ∀ a, off a + s.size a ≤ s.size a) (V : s.Idx → Val e) :
    (hold c (v.slice (Rect.unit off s.size inb)) V : sProp 𝕄) = hold c v V := by
  have hemb : ∀ x : s.Idx, (Rect.unit off s.size inb).emb x = x := fun x => by
    funext a; apply Fin.ext
    show off a + 1 * (x a : Nat) = x a
    rw [hoff a]; omega
  have hset : (v.slice (Rect.unit off s.size inb)).set = v.set := by
    ext y
    constructor
    · intro hy; exact View.set_slice_subset v _ hy
    · intro hy
      obtain ⟨x, -, rfl⟩ := Finset.mem_map.mp hy
      have : (v.slice (Rect.unit off s.size inb)).emb x ∈ (v.slice (Rect.unit off s.size inb)).set := View.emb_mem_set _ x
      have h2 : (v.slice (Rect.unit off s.size inb)).emb x = v.emb x := congrArg v.emb (hemb x)
      rwa [h2] at this
  have hread : ∀ f : Buf Val (v.loc c), (v.slice (Rect.unit off s.size inb)).read Val f = v.read Val f := fun f => by
    funext x
    exact congrArg (v.read Val f) (hemb x)
  unfold hold
  refine eq_of_ent ?_ ?_
  · iintro ⟨%f, %hf, H⟩
    iexists f
    isplitr
    · ipureintro; rw [← hf]; exact (hread f).symm
    · ihave H := (Entails.of_eq (congrArg (fun S => (v.loc c ↦[S]{fullShare} f : sProp 𝕄)) hset)) $$ H
      iexact H
  · iintro ⟨%f, %hf, H⟩
    iexists f
    isplitr
    · ipureintro; rw [← hf]; exact hread f
    · ihave H := (Entails.of_eq (congrArg (fun S => (v.loc c ↦[S]{fullShare} f : sProp 𝕄)) hset.symm)) $$ H
      iexact H

/-- The unknown-contents form of `hold_full`. -/
theorem any_full (c : Thread nD τ) (v : View sig c.2.kind sp s e) (off : Fin s.rank → Nat) (hoff : ∀ a, off a = 0)
    (inb : ∀ a, off a + s.size a ≤ s.size a) :
    (holdAny c (v.slice (Rect.unit off s.size inb)) : sProp 𝕄) = holdAny c v := by
  refine eq_of_ent ?_ ?_
  · refine (any_hold c _).trans ?_
    iintro ⟨%V, H⟩
    ihave H := (Entails.of_eq (hold_full c v off hoff inb V)) $$ H
    iapply (hold_any c v V) $$ H
  · refine (any_hold c _).trans ?_
    iintro ⟨%V, H⟩
    ihave H := (Entails.of_eq (hold_full c v off hoff inb V).symm) $$ H
    iapply (hold_any c _ V) $$ H

section Rules

variable [Preorder Lvl] {Λ : Labels} {defs : Defs nD τ sig Val Λ} (𝒱 : Variants) (c : Thread nD τ) (bd : Option 𝒱.V)
variable {cs : CoreSpace} {α : Type} {Q : α → sProp (MT nD τ sig Ix Val Name U Lvl)}

/-- A load through a rectangle held outright continues at the contents held. -/
theorem wp_hold_load {m : Memref sig c.2.kind cs s e} {r : Rect s} {hl : m.view.LoadsAt r.toLoadRect}
    {k : (r.shape.Idx → Val e) → Prog (TpuEff nD τ sig Val Λ c.2) α} {V : r.shape.Idx → Val e} :
    (hold c (m.access r) V : sProp 𝕄)
      ⊢ iprop((hold c (m.access r) V -∗ wp frame (wpE defs 𝒱 c bd) Set.univ (k V) Q)
        -∗ wp frame (wpE defs 𝒱 c bd) Set.univ (.op (.load m r.toLoadRect hl) k) Q) := by
  iintro H Hk
  unfold hold
  icases H with ⟨%f, %hf, Hf⟩
  subst hf
  iapply (wp_load_rect 𝒱 c bd Set.univ (m := m) (r := r) (subset_rfl)) $$ Hf
  iintro Hf
  iapply Hk
  iexists f
  isplitr
  · ipureintro; rfl
  · iexact Hf

/-- A load through a rectangle inside the one held continues at the held contents read there. -/
theorem wp_hold_load_sub {m : Memref sig c.2.kind cs s e} {r r₀ : Rect s} {hl : m.view.LoadsAt r.toLoadRect}
    {k : (r.shape.Idx → Val e) → Prog (TpuEff nD τ sig Val Λ c.2) α} {V : r₀.shape.Idx → Val e}
    (φ : r.shape.Idx → r₀.shape.Idx) (hφ : ∀ x, r.emb x = r₀.emb (φ x)) :
    (hold c (m.access r₀) V : sProp 𝕄)
      ⊢ iprop((hold c (m.access r₀) V -∗ wp frame (wpE defs 𝒱 c bd) Set.univ (k fun x => V (φ x)) Q)
        -∗ wp frame (wpE defs 𝒱 c bd) Set.univ (.op (.load m r.toLoadRect hl) k) Q) := by
  have hsub : (m.access r).set ⊆ (m.access r₀).set := by
    intro y hy
    obtain ⟨x, -, rfl⟩ := Finset.mem_map.mp hy
    have h2 : (m.access r).emb x = (m.access r₀).emb (φ x) := congrArg m.view.emb (hφ x)
    rw [h2]; exact View.emb_mem_set _ _
  iintro H Hk
  unfold hold
  icases H with ⟨%f, %hf, Hf⟩
  subst hf
  have hr : (m.access r).read Val f = fun x => (m.access r₀).read Val f (φ x) := by
    funext x
    exact congrArg (m.view.read Val f) (hφ x)
  iapply (wp_load_rect 𝒱 c bd Set.univ (m := m) (r := r) hsub) $$ Hf
  rw [hr]
  iintro Hf
  iapply Hk
  iexists f
  isplitr
  · ipureintro; rfl
  · iexact Hf

/-- A load whose result the program throws away: the memory under it may be held at any contents. -/
theorem wp_any_load {m : Memref sig c.2.kind cs s e} {r : Rect s} {hl : m.view.LoadsAt r.toLoadRect}
    {k : (r.shape.Idx → Val e) → Prog (TpuEff nD τ sig Val Λ c.2) α} :
    (holdAny c (m.access r) : sProp 𝕄)
      ⊢ iprop((∀ V, holdAny c (m.access r) -∗ wp frame (wpE defs 𝒱 c bd) Set.univ (k V) Q)
        -∗ wp frame (wpE defs 𝒱 c bd) Set.univ (.op (.load m r.toLoadRect hl) k) Q) := by
  iintro H Hk
  ihave H1 := (any_hold c (m.access r)) $$ H
  icases H1 with ⟨%V, H1⟩
  iapply (wp_hold_load 𝒱 c bd (m := m) (r := r)) $$ H1
  iintro H1
  iapply Hk $$ %V
  iapply (hold_any c (m.access r) V) $$ H1

/-- An unmasked store through a rectangle held outright leaves it held at what was stored. -/
theorem wp_hold_store {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    (holdAny c (m.access r) : sProp 𝕄)
      ⊢ iprop((hold c (m.access r) w -∗ wp frame (wpE defs 𝒱 c bd) Set.univ (k ⟨⟩) Q)
        -∗ wp frame (wpE defs 𝒱 c bd) Set.univ (.op (.store m r w Finset.univ hx hm) k) Q) := by
  iintro H Hk
  unfold holdAny Release.slot
  icases H with ⟨%f, Hf⟩
  iapply (wp_store 𝒱 c bd Set.univ (m := m) (r := r) (w := w) (Mk := Finset.univ) (S := (m.access r).set) (subset_rfl)) $$ Hf
  iintro Hf
  iapply Hk
  iapply (hold_intro c (m.access r) _ (View.read_write_univ _ _)) $$ Hf

variable (EC : UEmb Counters (MT nD τ sig Ix Val Name U Lvl))

/-- A local transfer between views held outright: the core goes on with its flight, which delivers the destination at
    what the source reads and the source back. -/
theorem wp_hold_dma [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {V : s.Idx → Val e}
    (ι : Ix) (N : ℕ) (hN : dst.view.amount sm = N) (hN0 : 0 < N) :
    iprop(hold c src.view V ∗ holdAny c dst.view ∗ semVal (c, sm) 0)
      ⊢ iprop((Transfers.Flight EC c sm ι N iprop(hold c dst.view V ∗ hold c src.view V)
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  unfold holdAny Release.slot
  icases Hd with ⟨%fd, Hd⟩
  unfold hold
  icases Hs with ⟨%f, %hf, Hf⟩
  subst hf
  iapply (Transfers.wp_dmaLocal EC 𝒱 c bd (via := ReadAs.same) ι N hN hN0 (subset_rfl)) $$ [Hf Hd Hv]
  · isplitl [Hf]; · iexact Hf
    isplitl [Hd]; · iexact Hd
    iexact Hv
  iintro HF
  iapply Hk
  iapply (Transfers.Flight_mono EC c ?_) $$ HF
  iintro ⟨H1, H2⟩
  isplitl [H1]
  · iexists _
    isplitr
    rotate_left
    · iexact H1
    · ipureintro; exact View.read_write_univ _ _
  · iexists f
    isplitr
    · ipureintro; rfl
    · iexact H2

end Rules

end Cert.Hold

end
-- ==== Proof.IProto.lean ====
/-
The protocol of the ring: its devices, buffers, cells and contents; the schedule of its semaphore cells (what each
round of each cell is worth and hands over); what each device owes and in which order it pays; the levels that make
every wait safe.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Hold

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The resource algebra -/

/-- A message slot's key: its writer, the direction, the message's number. -/
abbrev KeyT : Type := Dev nD × Bool × ℕ
abbrev UB : Type := URounds (GSem nD τ sig) ℕ
abbrev US : Type := USlots KeyT
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
/-- The rounds library's component. -/
def ER : Emb UB (MT nD τ sig ℕ (Elt F) ℕ UU ℕ) :=
  (Emb.inl : Emb UB (UB × (US × Counters))).trans (embR : Emb (UB × (US × Counters)) (MT nD τ sig ℕ (Elt F) ℕ UU ℕ))
instance ER_landsIn : (ER : Emb UB 𝕄).LandsIn (upEmb : UEmb _ 𝕄) := by unfold ER; infer_instance
/-- The slot library's component. -/
def ES : Emb US (MT nD τ sig ℕ (Elt F) ℕ UU ℕ) :=
  (Emb.inl : Emb US (US × Counters)).trans ((Emb.inr : Emb (US × Counters) (UB × (US × Counters))).trans
    (embR : Emb (UB × (US × Counters)) (MT nD τ sig ℕ (Elt F) ℕ UU ℕ)))
instance ES_landsIn : (ES : Emb US 𝕄).LandsIn (upEmb : UEmb _ 𝕄) := by unfold ES; infer_instance
/-- The local transfers' component. -/
abbrev EC : UEmb Counters (MT nD τ sig ℕ (Elt F) ℕ UU ℕ) := countersEmb

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

/-- Where direction `b` sends to: `false` goes right, `true` goes left. -/
def dst : Bool → Dev nD → Dev nD
  | false, c => nxt c
  | true, c => prv c
/-- Where direction `b` receives from. -/
def src : Bool → Dev nD → Dev nD
  | false, c => prv c
  | true, c => nxt c

theorem dst_src (b : Bool) (c : Dev nD) : dst b (src b c) = c := by revert b c; decide
theorem src_dst (b : Bool) (c : Dev nD) : src b (dst b c) = c := by revert b c; decide

/-! ## Buffers, slots, rectangles -/

theorem inb2 (r : Fin 2) : ∀ a, (![r.val, 0, 0] : Fin 3 → ℕ) a + S1x1024x1024.size a ≤ S2x1024x1024.size a := by
  revert r; decide
theorem inb4 (r : Fin 4) : ∀ a, (![r.val, 0, 0] : Fin 3 → ℕ) a + S1x1024x1024.size a ≤ S4x1024x1024.size a := by
  revert r; decide
theorem inbs2 (r : Fin 2) : ∀ a, (![r.val] : Fin 1 → ℕ) a + S1.size a ≤ S2.size a := by revert r; decide
theorem inbs4 (r : Fin 4) : ∀ a, (![r.val] : Fin 1 → ℕ) a + S1.size a ≤ S4.size a := by revert r; decide

/-- Slot `r` of a send buffer; -/
abbrev r2 (r : Fin 2) : Rect S2x1024x1024 := Rect.unit (s := S2x1024x1024) ![r.val, 0, 0] S1x1024x1024.size (inb2 r)
/-- of a receive buffer. -/
abbrev r4 (r : Fin 4) : Rect S4x1024x1024 := Rect.unit (s := S4x1024x1024) ![r.val, 0, 0] S1x1024x1024.size (inb4 r)

/-- The send buffer of direction `b`; -/
abbrev snB (b : Bool) : Memref sig .tc .vmem S2x1024x1024 .bf16 :=
  match b with | false => Memref.whole cc0_scratch4 | true => Memref.whole cc0_scratch5
/-- its receive buffer. -/
abbrev rcB (b : Bool) : Memref sig .tc .vmem S4x1024x1024 .bf16 :=
  match b with | false => Memref.whole cc0_scratch6 | true => Memref.whole cc0_scratch7

/-- A send slot as loads and stores see it; -/
abbrev snV (b : Bool) (r : Fin 2) : View sig .tc .vmem S1x1024x1024 .bf16 := (snB b).access (r2 r)
/-- a receive slot. -/
abbrev rcV (b : Bool) (r : Fin 4) : View sig .tc .vmem S1x1024x1024 .bf16 := (rcB b).access (r4 r)
/-- A send slot as a transfer sees it; -/
abbrev snM (b : Bool) (r : Fin 2) : Memref sig .tc .vmem S1024x1024 .bf16 :=
  ((snB b).slice (r2 r) (fun _ => rfl)).squeeze S1024x1024 squeezes_S1x1024x1024_S1024x1024
/-- a receive slot. -/
abbrev rcM (b : Bool) (r : Fin 4) : Memref sig .tc .vmem S1024x1024 .bf16 :=
  ((rcB b).slice (r4 r) (fun _ => rfl)).squeeze S1024x1024 squeezes_S1x1024x1024_S1024x1024

/-- The semaphore of a send slot; -/
abbrev snS (b : Bool) (r : Fin 2) : DmaSem sig :=
  match b with
  | false => ((cc0_scratch8.slice (Rect.unit (s := S2) ![r.val] S1.size (inbs2 r))).squeeze S_ squeezes_S1_S_).sem
  | true => ((cc0_scratch9.slice (Rect.unit (s := S2) ![r.val] S1.size (inbs2 r))).squeeze S_ squeezes_S1_S_).sem
/-- of a receive slot; -/
abbrev rcS (b : Bool) (r : Fin 4) : DmaSem sig :=
  match b with
  | false => ((cc0_scratch10.slice (Rect.unit (s := S4) ![r.val] S1.size (inbs4 r))).squeeze S_ squeezes_S1_S_).sem
  | true => ((cc0_scratch11.slice (Rect.unit (s := S4) ![r.val] S1.size (inbs4 r))).squeeze S_ squeezes_S1_S_).sem
/-- the credit semaphore of a direction; -/
abbrev crS (b : Bool) : Sem sig := match b with | false => cc0_scratch12.sem | true => cc0_scratch13.sem
/-- the runtime's barrier semaphore. -/
abbrev barS : Sem sig := (SemArray.scalar (sig.barrier 0 rfl) : Sems sig S_).sem

/-- The block of 1024 rows of `x` that belongs to the device `j` places to the right. -/
theorem inbC (c : Dev nD) (j : ℕ) : ∀ a, (![1024 * ((c.val + j) % 4), 0] : Fin 2 → ℕ) a + S1024x1024.size a ≤ S4096x1024.size a := by
  have h : (c.val + j) % 4 < 4 := Nat.mod_lt _ (by decide)
  refine Fin.forall_fin_two.mpr ⟨?_, Nat.le_refl 1024⟩
  show 1024 * ((c.val + j) % 4) + 1024 ≤ 4096
  omega
abbrev chunkR (c : Dev nD) (j : ℕ) : Rect S4096x1024 :=
  Rect.unit (s := S4096x1024) ![1024 * ((c.val + j) % 4), 0] S1024x1024.size (inbC c j)
theorem inbT (t : Fin 4) : ∀ a, (![0, 2048 * t.val] : Fin 2 → ℕ) a + S1024x2048.size a ≤ S1024x8192.size a := by
  revert t; decide
/-- Tile `t` of 2048 columns. -/
abbrev tileR (t : Fin 4) : Rect S1024x8192 := Rect.unit (s := S1024x8192) ![0, 2048 * t.val] S1024x2048.size (inbT t)
theorem inbH (b : Bool) : ∀ a, (![0, 1024 * b.toNat] : Fin 2 → ℕ) a + S1024x1024.size a ≤ S1024x2048.size a := by
  revert b; decide
/-- The half of a tile that direction `b` carries. -/
abbrev halfR (b : Bool) : Rect S1024x2048 := Rect.unit (s := S1024x2048) ![0, 1024 * b.toNat] S1024x1024.size (inbH b)

/-! ## Contents -/

variable (m : (ℓ : Loc nD τ sig) → Buf (Elt F) ℓ)

/-- Device `c`'s block of `x`; -/
def X (c : Dev nD) : S4096x1024.Idx → Elt F .f32 := (Memref.whole main_arg0 : Memref sig .tc .hbm S4096x1024 .f32).view.read (Elt F) (m ((c : Thread nD τ).loc main_arg0))
/-- of `w`. -/
def Wt (c : Dev nD) : S1024x8192.Idx → Elt F .f32 := (Memref.whole main_arg1 : Memref sig .tc .hbm S1024x8192 .f32).view.read (Elt F) (m ((c : Thread nD τ).loc main_arg1))
/-- A block of rows of `x`; -/
def xs (c : Dev nD) (j : ℕ) : Vec F S1024x1024 .f32 := fun x => X m c ((chunkR c j).emb x)
/-- a tile of `w`. -/
def ws (c : Dev nD) (t : Fin 4) : Vec F S1024x2048 .f32 := fun x => Wt m c ((tileR t).emb x)
/-- The block as the product reads it; -/
def x8 (c : Dev nD) (j : ℕ) : Vec F S1024x1024 .fp8e4m3 := k0_pay2 (xs m c j)
/-- the tile. -/
def w8 (c : Dev nD) (t : Fin 4) : Vec F S1024x2048 .fp8e4m3 := k0_pay4 (ws m c t)
/-- The half of a tile that direction `b` carries. -/
def wh (c : Dev nD) (t : Fin 4) (b : Bool) : Vec F S1024x1024 .fp8e4m3 := fun x => w8 m c t ((halfR b).emb x)

/-- Which block of rows the message of stage `s` in direction `b` is about, counted from its sender. -/
def jS (b : Bool) (s : ℕ) : ℕ := match b with | false => 3 - s | true => s + 1

/-- The message device `q` sends at stage `s` in direction `b` for tile `t`: its own partial product, with what it
    received at the stage before added. -/
def msgS (b : Bool) (t : Fin 4) : ℕ → Dev nD → Vec F S1x1024x1024 .bf16
  | 0, q => k0_pay24 (k0_pay13 (x8 m q (jS b 0)) (wh m q t b))
  | s + 1, q => k0_pay24 (k0_pay21 (k0_pay13 (x8 m q (jS b (s + 1))) (wh m q t b)) (msgS b t s (src b q)))

/-- The tile of message number `i`; -/
def tileOf (i : ℕ) : Fin 4 := if i < 6 then ⟨i % 2, by omega⟩ else ⟨2 + i % 2, by omega⟩
/-- its stage. -/
def stageOf (i : ℕ) : ℕ := (i % 6) / 2
/-- Message number `i` in direction `b` of device `q`. -/
def msg (b : Bool) (i : ℕ) (q : Dev nD) : Vec F S1x1024x1024 .bf16 := msgS m b (tileOf i) (stageOf i) q

/-! ## The cells -/

/-- The kinds of cell a device has in the protocol. -/
inductive CK where
  | bar
  | rcv (b : Bool) (r : Fin 4)
  | snd (b : Bool) (r : Fin 2)
  | crd (b : Bool)
deriving DecidableEq

/-- All of them. -/
def cks : List CK :=
  [.bar, .rcv false 0, .rcv false 1, .rcv false 2, .rcv false 3, .rcv true 0, .rcv true 1, .rcv true 2, .rcv true 3,
    .snd false 0, .snd false 1, .snd true 0, .snd true 1, .crd false, .crd true]
theorem mem_cks (k : CK) : k ∈ cks := by
  cases k with
  | bar => decide
  | rcv b r => revert b r; decide
  | snd b r => revert b r; decide
  | crd b => revert b; decide
instance : Fintype CK := ⟨⟨cks, by decide⟩, mem_cks⟩

/-- The semaphore of a cell. -/
abbrev csem : CK → SemLoc sig
  | .bar => .reg barS
  | .rcv b r => .dma (rcS b r)
  | .snd b r => .dma (snS b r)
  | .crd b => .reg (crS b)

/-- Which cell of the protocol a semaphore is, if any. -/
def kindOf (s : SemLoc sig) : Option CK := cks.find? fun k => decide (csem k = s)
theorem kindOf_csem (k : CK) : kindOf (csem k) = some k := by
  revert k; decide +kernel
theorem csem_inj : Function.Injective csem := fun k k' h => by
  have := kindOf_csem k
  rw [h, kindOf_csem] at this
  exact (Option.some.inj this).symm

/-- The cell of a device. -/
abbrev kc (c : Dev nD) (k : CK) : GSem nD τ sig := ((c : Thread nD τ), csem k)

theorem kc_inj {c c' : Dev nD} {k k' : CK} (h : kc c k = kc c' k') : c = c' ∧ k = k' := by
  have h1 := congrArg (fun g : GSem nD τ sig => g.1.1) h
  have h2 := congrArg (fun g : GSem nD τ sig => g.2) h
  exact ⟨h1, csem_inj h2⟩

/-- What a message's transfer credits. -/
@[irreducible] def N : ℕ := (rcM false 0).view.dmaCredit
theorem N_pos : 0 < N := by unfold N; exact View.dmaCredit_pos _ (by decide)
theorem N_eq (b : Bool) (r : Fin 4) : (rcM b r).view.dmaCredit = N := by unfold N; revert b r; decide +kernel
theorem N_eq' (b : Bool) (r : Fin 2) : (snM b r).view.dmaCredit = N := by unfold N; revert b r; decide +kernel

end Cert.KernelIdeal.Ring

end
-- ==== Proof.ISched.lean ====
/-
The schedule of the ring's cells, what each device owes and in which order it pays, the levels, and what a device
holds between two steps.
-/
module

public import proofs.«01_k».proof.Proof.IProto

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.TalkSites (Pay tallyL tallyL_pos)

variable {F : FTy → Type} [FloatOps F]

local notation "𝕄" => MT nD τ sig ℕ (Elt F) ℕ UU ℕ

/-! ## Lists of numbered parts -/

/-- Number `i`, modulo the four receive slots; -/
def fm (i : ℕ) : Fin 4 := ⟨i % 4, Nat.mod_lt _ (by decide)⟩
/-- modulo the two send slots. -/
def f2 (i : ℕ) : Fin 2 := ⟨i % 2, Nat.mod_lt _ (by decide)⟩
theorem fm_add (i : ℕ) : fm (i + 4) = fm i := Fin.ext (Nat.add_mod_right i 4)
theorem f2_add (i : ℕ) : f2 (i + 2) = f2 i := Fin.ext (Nat.add_mod_right i 2)

omit [FloatOps F] in
/-- The first of the parts numbered from `i`. -/
theorem ico_head {i n : ℕ} (h : i < n) (Φ : ℕ → sProp 𝕄) :
    bigSep (Finset.Ico i n) Φ = iprop(Φ i ∗ bigSep (Finset.Ico (i + 1) n) Φ) := by
  rw [show Finset.Ico i n = insert i (Finset.Ico (i + 1) n) from by ext x; simp only [Finset.mem_Ico, Finset.mem_insert]; omega]
  exact bigSep_insert (by simp)
omit [FloatOps F] in
/-- The last of the parts numbered up to `n`. -/
theorem ico_last {i n : ℕ} (h : i ≤ n) (Φ : ℕ → sProp 𝕄) :
    bigSep (Finset.Ico i (n + 1)) Φ = iprop(bigSep (Finset.Ico i n) Φ ∗ Φ n) := by
  rw [show Finset.Ico i (n + 1) = insert n (Finset.Ico i n) from by ext x; simp only [Finset.mem_Ico, Finset.mem_insert]; omega,
    show (bigSep (insert n (Finset.Ico i n)) Φ : sProp 𝕄) = iprop(Φ n ∗ bigSep (Finset.Ico i n) Φ) from bigSep_insert (by simp)]
  exact eq_of_ent (by iintro ⟨H1, H2⟩; isplitl [H2] <;> iassumption) (by iintro ⟨H1, H2⟩; isplitl [H2] <;> iassumption)

/-! ## The schedule -/

variable (m : (ℓ : Loc nD τ sig) → Buf (Elt F) ℓ)

/-- What writer `q` knows in direction `b` after `k` credits: its first `4 + k` messages' slots are given up by their
    reader, and the receive cells have reached those messages' rounds. -/
def Upto (q : Dev nD) (b : Bool) (k : ℕ) : sProp 𝕄 :=
  bigSep (Finset.range (4 + k)) fun i => iprop(released ES (q, b, i) 1 ∗ reached ER (kc (dst b q) (.rcv b (fm i))) (i / 4))

instance Upto_persistent (q : Dev nD) (b : Bool) (k : ℕ) : BI.Persistent (Upto (F := F) q b k) := by unfold Upto; infer_instance
instance Upto_storable (q : Dev nD) (b : Bool) (k : ℕ) : Storable (upEmb : UEmb _ 𝕄) (Upto (F := F) q b k) := by
  unfold Upto; infer_instance

omit [FloatOps F] in
theorem Upto_mono (q : Dev nD) (b : Bool) {k k' : ℕ} (h : k' ≤ k) : (Upto q b k : sProp 𝕄) ⊢ Upto q b k' :=
  bigSep_subset (Finset.range_subset_range.mpr (by omega))
omit [FloatOps F] in
theorem Upto_get (q : Dev nD) (b : Bool) {k i : ℕ} (h : i < 4 + k) :
    (Upto q b k : sProp 𝕄) ⊢ iprop(released ES (q, b, i) 1 ∗ reached ER (kc (dst b q) (.rcv b (fm i))) (i / 4)) :=
  bigSep_elim (Finset.mem_range.mpr h)
omit [FloatOps F] in
theorem Upto_succ (q : Dev nD) (b : Bool) (k : ℕ) :
    (Upto q b (k + 1) : sProp 𝕄) = iprop((released ES (q, b, k + 4) 1 ∗ reached ER (kc (dst b q) (.rcv b (fm k))) (k / 4 + 1)) ∗ Upto q b k) := by
  unfold Upto
  rw [show 4 + (k + 1) = (4 + k) + 1 from rfl, Finset.range_add_one, bigSep_insert Finset.notMem_range_self, Nat.add_comm 4 k, fm_add,
    Nat.add_div_right k (by decide)]
  rfl

/-- The duties of a round of a cell. -/
def dutiesK : CK → ℕ → Finset ℕ
  | .bar, r => if r = 0 then {0, 1} else ∅
  | .rcv _ _, r => if r < 3 then {0} else ∅
  | .snd _ _, r => if r < 6 then {0} else ∅
  | .crd _, r => if r = 0 then Finset.range 8 else ∅
/-- What a unit of work on a cell adds to it. -/
def amountK : CK → ℕ
  | .bar => 1
  | .rcv _ _ => N
  | .snd _ _ => N
  | .crd _ => 1
/-- What it hands to the cell's owner `q`. -/
def payK (q : Dev nD) : CK → ℕ → ℕ → sProp 𝕄
  | .bar, _, d => Upto q (d == 1) 0
  | .rcv b r, n, _ => hold (q : Thread nD τ) (rcV b r) (msg m b (4 * n + r.val) (src b q))
  | .snd b r, _, _ => holdAny (q : Thread nD τ) (snV b r)
  | .crd b, _, j => Upto q b (j + 1)

theorem amountK_pos : ∀ k : CK, 0 < amountK k
  | .bar => Nat.one_pos
  | .rcv _ _ => N_pos
  | .snd _ _ => N_pos
  | .crd _ => Nat.one_pos

/-- The schedule of the ring's cells. -/
def Rd : Rounds.Schedule (GSem nD τ sig) ℕ 𝕄 where
  duties g r := if g.1.2 = .tc then (kindOf g.2).elim ∅ fun k => dutiesK k r else ∅
  unitless _ := False
  amount g _ _ := (kindOf g.2).elim 1 amountK
  payload g r d := (kindOf g.2).elim iprop(emp) fun k => payK m g.1.1 k r d
  amount_pos g _ _ _ := by
    cases kindOf g.2 with
    | none => exact Nat.one_pos
    | some k => exact amountK_pos k

instance payK_storable (q : Dev nD) (k : CK) (r d : ℕ) : Storable (upEmb : UEmb _ 𝕄) (payK m q k r d) := by
  cases k <;> unfold payK <;> infer_instance
instance Rd_storable (g : GSem nD τ sig) (r d : ℕ) : Storable (upEmb : UEmb _ 𝕄) ((Rd (F := F) m).payload g r d) := by
  show Storable upEmb ((kindOf g.2).elim iprop(emp) fun k => payK m g.1.1 k r d)
  cases kindOf g.2 with
  | none => show Storable upEmb iprop(emp); infer_instance
  | some k => exact payK_storable m _ _ _ _

theorem duties_kc (c : Dev nD) (k : CK) (r : ℕ) : (Rd (F := F) m).duties (kc c k) r = dutiesK k r := by
  show (if (kc c k).1.2 = .tc then (kindOf (csem k)).elim ∅ fun k => dutiesK k r else ∅) = _
  rw [if_pos rfl, kindOf_csem]; rfl
theorem amount_kc (c : Dev nD) (k : CK) (r d : ℕ) : (Rd (F := F) m).amount (kc c k) r d = amountK k := by
  show (kindOf (csem k)).elim 1 amountK = _
  rw [kindOf_csem]; rfl
theorem payload_kc (c : Dev nD) (k : CK) (r d : ℕ) : (Rd (F := F) m).payload (kc c k) r d = payK m c k r d := by
  show (kindOf (csem k)).elim iprop(emp) (fun k => payK m c k r d) = _
  rw [kindOf_csem]; rfl
theorem expect_kc (c : Dev nD) (k : CK) (r : ℕ) : (Rd (F := F) m).expect (kc c k) r = (dutiesK k r).card * amountK k := by
  unfold Schedule.expect Schedule.amountOf
  rw [duties_kc, Finset.sum_congr rfl fun d _ => amount_kc m c k r d, Finset.sum_const, smul_eq_mul]

/-! ## What is owed, in the order it is paid -/

/-- A payment a device makes to a neighbour: the entry signal, a message, a credit. -/
inductive Ev where
  | bar (b : Bool)
  | send (b : Bool) (i : ℕ)
  | cred (b : Bool) (j : ℕ)
deriving DecidableEq

/-- All payments of a device, in the order of its program. -/
def evs : List Ev :=
  [.bar false, .bar true, .send false 0, .send true 0, .send false 1, .send true 1,
    .cred false 0, .cred true 0, .send false 2, .send true 2, .cred false 1, .cred true 1, .send false 3, .send true 3,
    .cred false 2, .cred true 2, .send false 4, .send true 4, .cred false 3, .cred true 3, .send false 5, .send true 5,
    .send false 6, .send true 6, .send false 7, .send true 7, .cred false 4, .cred true 4, .cred false 5, .cred true 5,
    .cred false 6, .cred true 6, .send false 8, .send true 8, .cred false 7, .cred true 7, .send false 9, .send true 9,
    .send false 10, .send true 10, .send false 11, .send true 11]

/-- The cell a payment goes to, its index and its units. -/
def pay (c : Dev nD) : Ev → Pay nD τ sig
  | .bar b => (kc (src b c) .bar, 0, 1)
  | .send b i => (kc (dst b c) (.rcv b (fm i)), i, N)
  | .cred b j => (kc (src b c) (.crd b), j, 1)

/-- What is owed when the first `n` payments are made. -/
def owedAt (c : Dev nD) (n : ℕ) : CellTallies nD τ sig ℕ := tallyL ((evs.drop n).map (pay c))

theorem owedAt_step (c : Dev nD) {n : ℕ} {e : Ev} (h : evs.drop n = e :: evs.drop (n + 1)) :
    owedAt c n = owedAt c (n + 1) + tallyAt (pay c e).1 (pay c e).2.1 (pay c e).2.2 := by
  unfold owedAt
  rw [h, List.map_cons, tallyL, add_comm]
theorem owedAt_end (c : Dev nD) : owedAt c 42 = 0 := rfl

/-- The indices a cell is owed or waited at. -/
def L (g : GSem nD τ sig) : Finset ℕ := if g.1.2 = .tc then Finset.range 12 else ∅
/-- A cell's level at an index. -/
def lvK : CK → ℕ → ℕ
  | .bar, _ => 1
  | .rcv _ _, i => 2 * i + 2
  | .snd _ _, _ => 0
  | .crd _, j => 2 * j + 3
def lv (g : GSem nD τ sig) (i : ℕ) : ℕ := (kindOf g.2).elim 0 fun k => lvK k i

/-- A payment's level; -/
def lvE : Ev → ℕ
  | .bar _ => 1
  | .send _ i => 2 * i + 2
  | .cred _ j => 2 * j + 3
/-- its index. -/
def ixE : Ev → ℕ
  | .bar _ => 0
  | .send _ i => i
  | .cred _ j => j

theorem L_of_ne (g : GSem nD τ sig) (h : g.1.2 ≠ .tc) : L g = ∅ := if_neg h
theorem L_tc (c : Dev nD) (sm : SemLoc sig) : L ((c : Thread nD τ), sm) = Finset.range 12 := if_pos rfl
theorem lv_kc (c : Dev nD) (k : CK) (i : ℕ) : lv (kc c k) i = lvK k i := by
  show (kindOf (csem k)).elim 0 (fun k => lvK k i) = _
  rw [kindOf_csem]; rfl
theorem lvE_pos : ∀ e : Ev, 0 < lvE e := fun e => by cases e <;> simp [lvE]
theorem pay_lv (c : Dev nD) (e : Ev) : lv (pay c e).1 (pay c e).2.1 = lvE e := by
  cases e <;> exact lv_kc _ _ _
theorem pay_ix (c : Dev nD) (e : Ev) : (pay c e).2.1 = ixE e := by cases e <;> rfl
theorem pay_tc (c : Dev nD) (e : Ev) : (pay c e).1.1.2 = .tc := by cases e <;> rfl
theorem ixE_lt : ∀ e ∈ evs, ixE e < 12 := by decide

theorem owedAt_pos (c : Dev nD) {n : ℕ} {g : GSem nD τ sig} {i : ℕ} (h : 0 < owedAt c n g i) :
    ∃ e ∈ evs.drop n, g = (pay c e).1 ∧ i = (pay c e).2.1 := by
  obtain ⟨x, hx, h1, h2⟩ := tallyL_pos h
  obtain ⟨e, he, rfl⟩ := List.mem_map.mp hx
  exact ⟨e, he, h1, h2⟩

omit [FloatOps F] in
/-- A wait is safe when everything still owed lies above it. -/
theorem mayWait_at (c : Dev nD) (n : ℕ) (sm : SemLoc sig) (ι l : ℕ) (hι : ι < 12) (hl : lv ((c : Thread nD τ), sm) ι = l)
    (h : ∀ e ∈ evs.drop n, l < lvE e) : (levAts L lv : sProp 𝕄) ⊢ MayWait (c : Thread nD τ) sm ι (owedAt c n) := by
  refine Pipeline.mayWait_of_levAts (by rw [L_tc]; exact Finset.mem_range.mpr hι) fun g i hg => ?_
  obtain ⟨e, he, rfl, rfl⟩ := owedAt_pos c hg
  refine ⟨?_, ?_⟩
  · rw [L, if_pos (pay_tc c e), pay_ix]; exact Finset.mem_range.mpr (ixE_lt e (List.mem_of_mem_drop he))
  · rw [pay_lv, hl]; exact h e he

/-! ## What a device holds between two steps -/

/-- The keys of all message slots. -/
def keys : Finset KeyT := Finset.univ ×ˢ (Finset.univ ×ˢ Finset.range 12)
/-- The slot a message goes to: at its reader. -/
def slotOf (k : KeyT) : sProp 𝕄 := holdAny (dst k.2.1 k.1 : Thread nD τ) (rcV k.2.1 (fm k.2.2))

/-- What every device may read: the cells, the slots, the levels. -/
def Recs (κ : Dev nD × CK → ℕ) (ζ : KeyT → ℕ) : sProp 𝕄 :=
  iprop(bigSep Finset.univ (fun p : Dev nD × CK => cellInv ER (Rd m) (κ p) (kc p.1 p.2))
    ∗ bigSep keys (fun k => slotInv ES (ζ k) k (slotOf k)) ∗ levAts L lv)
instance Recs_persistent (κ : Dev nD × CK → ℕ) (ζ : KeyT → ℕ) : BI.Persistent (Recs (F := F) m κ ζ) := by unfold Recs; infer_instance

theorem Recs_cell (κ : Dev nD × CK → ℕ) (ζ : KeyT → ℕ) (c : Dev nD) (k : CK) :
    (Recs m κ ζ : sProp 𝕄) ⊢ cellInv ER (Rd m) (κ (c, k)) (kc c k) := by
  have h : (bigSep Finset.univ (fun p : Dev nD × CK => cellInv ER (Rd m) (κ p) (kc p.1 p.2)) : sProp 𝕄) ⊢ cellInv ER (Rd m) (κ (c, k)) (kc c k) :=
    bigSep_elim (Finset.mem_univ (c, k))
  unfold Recs
  iintro ⟨H, -⟩
  iapply h $$ H
theorem Recs_slot (κ : Dev nD × CK → ℕ) (ζ : KeyT → ℕ) (c : Dev nD) (b : Bool) {i : ℕ} (hi : i < 12) :
    (Recs m κ ζ : sProp 𝕄) ⊢ slotInv ES (ζ (c, b, i)) (c, b, i) (slotOf (c, b, i)) := by
  have h : (bigSep keys (fun k => slotInv ES (ζ k) k (slotOf k)) : sProp 𝕄) ⊢ slotInv ES (ζ (c, b, i)) (c, b, i) (slotOf (c, b, i)) :=
    bigSep_elim (i := ((c, b, i) : KeyT)) (by simp [keys, hi])
  unfold Recs
  iintro ⟨-, H, -⟩
  iapply h $$ H
theorem Recs_lev (κ : Dev nD × CK → ℕ) (ζ : KeyT → ℕ) : (Recs m κ ζ : sProp 𝕄) ⊢ levAts L lv := by
  unfold Recs
  iintro ⟨-, -, H⟩
  iexact H

/-- What sending message `i` takes: both cells' duties and the right to write the slot. -/
def sendR (c : Dev nD) (b : Bool) (i : ℕ) : sProp 𝕄 :=
  iprop(dutyTok ER (kc c (.snd b (f2 i))) (i / 2) 0 ∗ dutyTok ER (kc (dst b c) (.rcv b (fm i))) (i / 4) 0 ∗ writeTok ES (c, b, i) 1)
/-- The sends from `i` on. -/
def Snd (c : Dev nD) (b : Bool) (i : ℕ) : sProp 𝕄 := bigSep (Finset.Ico i 12) (sendR c b)
/-- A send slot free to be written. -/
def SFree (c : Dev nD) (b : Bool) (r : Fin 2) (n : ℕ) : sProp 𝕄 :=
  iprop(atPos ER (kc c (.snd b r)) n ∅ 0 ∗ reached ER (kc c (.snd b r)) n ∗ holdAny (c : Thread nD τ) (snV b r))
/-- A send slot whose message is on its way. -/
def SBusy (c : Dev nD) (b : Bool) (r : Fin 2) (n : ℕ) : sProp 𝕄 :=
  iprop(atPos ER (kc c (.snd b r)) n ∅ 0 ∗ cred (tallyAt (kc c (.snd b r)) 0 N))
/-- The receives from `k` on. -/
def Rcv (c : Dev nD) (b : Bool) (k : ℕ) : sProp 𝕄 :=
  iprop(bigSep (Finset.Ico k (k + 4)) (fun i => atPos ER (kc c (.rcv b (fm i))) (i / 4) ∅ 0)
    ∗ bigSep (Finset.Ico k 12) (fun i => cred (tallyAt (kc c (.rcv b (fm i))) i N)))
/-- The credits to be waited for, from the `j`-th on, and what those waited for say. -/
def Crd (c : Dev nD) (b : Bool) (j : ℕ) : sProp 𝕄 :=
  iprop((∃ T : Finset ℕ, ⌜j ≤ T.card ∧ T ⊆ Finset.range 8⌝ ∗ atPos ER (kc c (.crd b)) 0 T j ∗ bigSep T (fun d => Upto c b (d + 1)))
    ∗ bigSep (Finset.Ico j 8) (fun i => cred (tallyAt (kc c (.crd b)) i 1)) ∗ Upto c b j)
/-- The credits to be given, from the `k`-th on. -/
def Giv (c : Dev nD) (b : Bool) (k : ℕ) : sProp 𝕄 :=
  iprop(bigSep (Finset.Ico k 8) (fun j => iprop(dutyTok ER (kc (src b c) (.crd b)) 0 j ∗ readerAt ES (src b c, b, j + 4) 0))
    ∗ Upto (src b c) b k ∗ reached ER (kc (src b c) (.crd b)) 0)

end Cert.KernelIdeal.Ring

end
-- ==== Proof.ISteps.lean ====
/-
One rule for each step of the ring's protocol: an entry signal, the entry wait, a receive, a credit given, a credit
waited for, a send slot's wait, a send.
-/
module

public import proofs.«01_k».proof.Proof.ISched

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

variable (m : (ℓ : Loc nD τ sig) → Buf (Elt F) ℓ)
variable (κ : Dev nD × CK → ℕ) (ζ : KeyT → ℕ)

/-- What device `c` owes after `n` payments. -/
def Ow (c : Dev nD) (n : ℕ) : sProp 𝕄 := iprop(∃ W : Waits sig ℕ, owes (c : Thread nD τ) (owedAt c n) W)

omit [FloatOps F] in
theorem Ow_intro (c : Dev nD) (n : ℕ) (W : Waits sig ℕ) : (owes (c : Thread nD τ) (owedAt c n) W : sProp 𝕄) ⊢ Ow c n := by
  unfold Ow; iintro H; iexists W; iexact H

theorem sendPay_any (c : Dev nD) (b : Bool) (r : Fin 2) (f : Buf (Elt F) ((snM b r).view.loc (c : Thread nD τ))) :
    ((snM b r).view.loc (c : Thread nD τ) ↦[(snM b r).view.set]{fullShare} f : sProp 𝕄) ⊢ holdAny (c : Thread nD τ) (snV b r) := by
  have h : (holdAny (c : Thread nD τ) (snM b r).view : sProp 𝕄) = holdAny (c : Thread nD τ) (snV b r) := any_reshape (c : Thread nD τ) (snV b r) _
  rw [← h]
  unfold holdAny Release.slot
  iintro H
  iexists f
  iexact H

variable {α : Type} {Q : α → sProp (MT nD τ sig ℕ (Elt F) ℕ UU ℕ)}

/-- An entry signal to the neighbour that writes to this device in direction `b`: it hands over the fresh slots. -/
theorem step_sig_bar (c : Dev nD) (b : Bool) {n : ℕ} (he : evs.drop n = .bar b :: evs.drop (n + 1)) {d' : Dev nD} (hd : d' = src b c)
    {k' : ℕ} (hk : k' = 1) {k : PUnit → Prog (TpuEff nD τ sig (Elt F) Λ₀ .tc) α} :
    iprop(Recs m κ ζ ∗ Ow c n ∗ dutyTok ER (kc (src b c) .bar) 0 b.toNat ∗ reached ER (kc (src b c) .bar) 0 ∗ Upto (src b c) b 0)
      ⊢ iprop((Ow c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d', .tc) barS k') k) Q) := by
  subst hd hk
  iintro ⟨#HR, HO, Ht, Hr, HU⟩ Hk
  unfold Ow
  icases HO with ⟨%W, HO⟩
  ihave #HI := (Recs_cell m κ ζ (src b c) .bar) $$ HR
  iapply (Rounds.wp_signal 𝒱₀ ER (Rd m) (c : Thread nD τ) none (dst := (src b c : Thread nD τ)) (κ := κ (src b c, .bar))
      (r := 0) (d := b.toNat) ((duties_kc m (src b c) .bar 0).symm ▸ (by cases b <;> simp [dutiesK])) (amount_kc m (src b c) .bar 0 b.toNat) 0
      (owedAt c (n + 1)) (owedAt_step c he)) $$ [HO Ht Hr HU]
  · isplitr; · iexact HI
    isplitl [HO]; · iexact HO
    isplitl [Ht]; · iexact Ht
    isplitl [HU]
    · iapply (Entails.of_eq (show Upto (src b c) b 0 = (Rd m).payload (kc (src b c) .bar) 0 b.toNat from by
        rw [payload_kc]; cases b <;> rfl)) $$ HU
    · iexact Hr
  iintro HO
  iapply Hk
  iexists W
  iexact HO

/-- The entry wait: both neighbours' fresh slots. -/
theorem step_wait_bar (c : Dev nD) {k' : ℕ} (hk : k' = 2) {k : PUnit → Prog (TpuEff nD τ sig (Elt F) Λ₀ .tc) α} :
    iprop(Recs m κ ζ ∗ Ow c 2 ∗ atPos ER (kc c .bar) 0 ∅ 0 ∗ cred (tallyAt (kc c .bar) 0 2))
      ⊢ iprop((Ow c 2 ∗ atPos ER (kc c .bar) 1 ∅ 0 ∗ Upto c false 0 ∗ Upto c true 0
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HR, HO, Ha, Hc⟩ Hk
  unfold Ow
  icases HO with ⟨%W, HO⟩
  ihave #HI := (Recs_cell m κ ζ c .bar) $$ HR
  ihave #Hlev := (Recs_lev m κ ζ) $$ HR
  iapply (Rounds.wp_wait_rest_token 𝒱₀ ER (Rd m) (c : Thread nD τ) none (κ := κ (c, .bar)) (sm := .reg barS)
      (wpE_semWait_eq 𝒱₀ (c : Thread nD τ) none Set.univ) (Set.mem_univ _) 0 (O := owedAt c 2) (W := W) (R := 0) (m := 0) (T := ∅)
      ((expect_kc m c .bar 0).trans (by rfl)).symm) $$ [Hc HO Ha]
  · isplitr; · iexact HI
    isplitl [Hc]; · iexact Hc
    isplitl [HO]; · iexact HO
    isplitr; · iapply (mayWait_at c 2 (.reg barS) 0 1 (by decide) (lv_kc c .bar 0) (by decide)) $$ Hlev
    iexact Ha
  iintro ⟨HO, Ha, -, Hp⟩
  have hp : bigSep ((Rd m).duties (kc c .bar) 0 \ ∅) (fun d => (Rd m).payload (kc c .bar) 0 d) = iprop(Upto c false 0 ∗ Upto c true 0) := by
    rw [Finset.sdiff_empty, duties_kc, bigSep_congr fun d _ => payload_kc m c .bar 0 d]
    show bigSep (insert 0 {1}) _ = _
    rw [bigSep_insert (by decide), bigSep_singleton]; rfl
  ihave Hp := (Entails.of_eq hp) $$ Hp
  icases Hp with ⟨H0, H1⟩
  iapply Hk
  isplitl [HO]; · iexists _; iexact HO
  isplitl [Ha]; · iexact Ha
  isplitl [H0] <;> iassumption

/-- A receive: message `kp` of the neighbour that writes to this device in direction `b`. -/
theorem step_recv (c : Dev nD) (b : Bool) (kp : ℕ) (n : ℕ) {r : Fin 4} (hkp : kp < 12) (hr : r = fm kp) (hlv : ∀ e ∈ evs.drop n, 2 * kp + 2 < lvE e)
    {sp : Space} {s' : Shape} {e' : EltTy} {srcM : Memref sig .tc sp s' e'} {hs : srcM.view.WordExact} {hd : (rcM b r).view.WordExact}
    {k : PUnit → Prog (TpuEff nD τ sig (Elt F) Λ₀ .tc) α} :
    iprop(Recs m κ ζ ∗ Ow c n ∗ Rcv c b kp)
      ⊢ iprop((Ow c n ∗ Rcv c b (kp + 1) ∗ hold (c : Thread nD τ) (rcV b r) (msg m b kp (src b c)) ∗ reached ER (kc c (.rcv b r)) (kp / 4 + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcS b r) srcM (rcM b r) hs hd) k) Q) := by
  subst hr
  iintro ⟨#HR, HO, Hv⟩ Hk
  unfold Ow Rcv
  icases HO with ⟨%W, HO⟩
  icases Hv with ⟨Hat, Hcr⟩
  ihave Hat := (Entails.of_eq (ico_head (show kp < kp + 4 by omega) _)) $$ Hat
  icases Hat with ⟨Ha, Hat⟩
  ihave Hcr := (Entails.of_eq (ico_head hkp _)) $$ Hcr
  icases Hcr with ⟨Hc, Hcr⟩
  ihave #HI := (Recs_cell m κ ζ c (.rcv b (fm kp))) $$ HR
  ihave #Hlev := (Recs_lev m κ ζ) $$ HR
  have hq : kp / 4 < 3 := by omega
  have hdu : dutiesK (.rcv b (fm kp)) (kp / 4) = {0} := if_pos hq
  iapply (Rounds.wp_wait_rest_token 𝒱₀ ER (Rd m) (c : Thread nD τ) none (κ := κ (c, .rcv b (fm kp))) (sm := csem (.rcv b (fm kp)))
      (k' := (rcM b (fm kp)).view.dmaCredit)
      (wpE_waitDma2_eq 𝒱₀ (c : Thread nD τ) none Set.univ) (Set.mem_univ _) kp (O := owedAt c n) (W := W) (R := kp / 4) (m := 0) (T := ∅)
      ((expect_kc m c (.rcv b (fm kp)) (kp / 4)).trans (by rw [hdu, Finset.card_singleton, Nat.one_mul, Nat.zero_add, N_eq]; rfl)).symm) $$ [Hc HO Ha]
  · isplitr; · iexact HI
    isplitl [Hc]; · rw [N_eq]; iexact Hc
    isplitl [HO]; · iexact HO
    isplitr; · iapply (mayWait_at c n (csem (.rcv b (fm kp))) kp (2 * kp + 2) hkp (lv_kc c (.rcv b (fm kp)) kp) hlv) $$ Hlev
    iexact Ha
  iintro ⟨HO, Ha, Hr, Hp⟩
  have hp : bigSep ((Rd m).duties (kc c (.rcv b (fm kp))) (kp / 4) \ ∅) (fun d => (Rd m).payload (kc c (.rcv b (fm kp))) (kp / 4) d)
      = hold (c : Thread nD τ) (rcV b (fm kp)) (msg m b kp (src b c)) := by
    rw [Finset.sdiff_empty, duties_kc, hdu, bigSep_singleton, payload_kc]
    show hold (c : Thread nD τ) (rcV b (fm kp)) (msg m b (4 * (kp / 4) + kp % 4) (src b c)) = _
    rw [Nat.div_add_mod]
  ihave Hp := (Entails.of_eq hp) $$ Hp
  iapply Hk
  isplitl [HO]; · iexists _; iexact HO
  isplitl [Ha Hat Hcr]
  · isplitl [Ha Hat]
    · iapply (Entails.of_eq (ico_last (show kp + 1 ≤ kp + 4 by omega) (fun i => atPos ER (kc c (.rcv b (fm i))) (i / 4) ∅ 0)).symm)
      isplitl [Hat]; · iexact Hat
      rw [fm_add, Nat.add_div_right kp (by decide)]
      iexact Ha
    · iexact Hcr
  isplitl [Hp] <;> iassumption

/-- A slot given back for its next message. -/
theorem step_release (c : Dev nD) (b : Bool) {i : ℕ} (hi : i < 12) :
    iprop(Recs m κ ζ ∗ readerAt ES (src b c, b, i) 0 ∗ holdAny (c : Thread nD τ) (rcV b (fm i)))
      ⊢ iprop(|={Set.univ}=> released ES (src b c, b, i) 1 : sProp 𝕄) := by
  iintro ⟨#HR, Hr, Hs⟩
  ihave #HI := (Recs_slot m κ ζ (src b c) b hi) $$ HR
  have hS : (slotOf (src b c, b, i) : sProp 𝕄) = holdAny (c : Thread nD τ) (rcV b (fm i)) := by
    unfold slotOf; rw [dst_src]
  imod (slot_release ES (k := (src b c, b, i)) (S := slotOf (src b c, b, i)) (Set.mem_univ (ζ (src b c, b, i)))
    (by rw [hS]; exact slot_slot_false (View.set_nonempty (by decide))) 0) $$ [Hr Hs] with ⟨-, H⟩
  · isplitr; · iexact HI
    isplitl [Hr]; · iexact Hr
    iapply (Entails.of_eq hS.symm) $$ Hs
  imodintro
  iexact H

/-- A credit given to the neighbour that writes to this device in direction `b`: the slot just read is given back. -/
theorem step_credit (c : Dev nD) (b : Bool) {kp n : ℕ} {r : Fin 4} (hkp : kp < 8) (hr : r = fm kp) (he : evs.drop n = .cred b kp :: evs.drop (n + 1))
    {d' : Dev nD} (hd : d' = src b c) {k' : ℕ} (hk : k' = 1) {V : S1x1024x1024.Idx → Elt F .bf16}
    {k : PUnit → Prog (TpuEff nD τ sig (Elt F) Λ₀ .tc) α} :
    iprop(Recs m κ ζ ∗ Ow c n ∗ Giv c b kp ∗ hold (c : Thread nD τ) (rcV b r) V ∗ reached ER (kc c (.rcv b r)) (kp / 4 + 1))
      ⊢ iprop((Ow c (n + 1) ∗ Giv c b (kp + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d', .tc) (crS b) k') k) Q) := by
  subst hr hd hk
  iintro ⟨#HR, HO, HG, Hs, #Hrv⟩ Hk
  unfold Ow Giv
  icases HO with ⟨%W, HO⟩
  icases HG with ⟨HG, #HU, #Hr0⟩
  ihave HG := (Entails.of_eq (ico_head hkp _)) $$ HG
  icases HG with ⟨⟨Ht, Hrd⟩, HG⟩
  ihave #HI := (Recs_cell m κ ζ (src b c) (.crd b)) $$ HR
  ihave Hs := (hold_any (c : Thread nD τ) (rcV b (fm kp)) V) $$ Hs
  imod (step_release m κ ζ c b (i := kp + 4) (by omega)) $$ [Hrd Hs] with #Hrel
  · isplitr; · iexact HR
    isplitl [Hrd]; · iexact Hrd
    rw [fm_add]; iexact Hs
  ihave #HU' : Upto (src b c) b (kp + 1) $$ []
  · rw [Upto_succ, dst_src]
    isplitr
    · isplitr; · iexact Hrel
      iexact Hrv
    · iexact HU
  iapply (Rounds.wp_signal 𝒱₀ ER (Rd m) (c : Thread nD τ) none (dst := (src b c : Thread nD τ)) (κ := κ (src b c, .crd b))
      (r := 0) (d := kp) ((duties_kc m (src b c) (.crd b) 0).symm ▸ (by show kp ∈ Finset.range 8; simpa using hkp)) (amount_kc m (src b c) (.crd b) 0 kp) kp
      (owedAt c (n + 1)) (owedAt_step c he)) $$ [HO Ht]
  · isplitr; · iexact HI
    isplitl [HO]; · iexact HO
    isplitl [Ht]; · iexact Ht
    isplitr
    · iapply (Entails.of_eq (show Upto (src b c) b (kp + 1) = (Rd m).payload (kc (src b c) (.crd b)) 0 kp from by
        rw [payload_kc]; rfl)) $$ HU'
    · iexact Hr0
  iintro HO
  iapply Hk
  isplitl [HO]; · iexists W; iexact HO
  isplitl [HG]; · iexact HG
  isplitr; · iexact HU'
  iexact Hr0

/-- The wait for credit `j`: one more slot is known to be given back. -/
theorem step_cwait (c : Dev nD) (b : Bool) (j n : ℕ) (hj : j < 8) (hlv : ∀ e ∈ evs.drop n, 2 * j + 3 < lvE e) {k' : ℕ} (hk : k' = 1)
    {k : PUnit → Prog (TpuEff nD τ sig (Elt F) Λ₀ .tc) α} :
    iprop(Recs m κ ζ ∗ Ow c n ∗ Crd c b j)
      ⊢ iprop((Ow c n ∗ Crd c b (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semWait (crS b) k') k) Q) := by
  subst hk
  iintro ⟨#HR, HO, HC⟩ Hk
  unfold Ow Crd
  icases HO with ⟨%W, HO⟩
  icases HC with ⟨⟨%T, %hT, Ha, #HT⟩, Hcr, #HU⟩
  obtain ⟨hTc, hTs⟩ := hT
  ihave Hcr := (Entails.of_eq (ico_head hj _)) $$ Hcr
  icases Hcr with ⟨Hc, Hcr⟩
  ihave #HI := (Recs_cell m κ ζ c (.crd b)) $$ HR
  ihave #Hlev := (Recs_lev m κ ζ) $$ HR
  have hdu : (Rd (F := F) m).duties (kc c (.crd b)) 0 = Finset.range 8 := duties_kc m c (.crd b) 0
  have hex : (Rd (F := F) m).expect (kc c (.crd b)) 0 = 8 := expect_kc m c (.crd b) 0
  iapply (Rounds.wp_wait 𝒱₀ ER (Rd m) (c : Thread nD τ) none (κ := κ (c, .crd b)) (sm := csem (.crd b)) (k' := 1)
      (wpE_semWait_eq 𝒱₀ (c : Thread nD τ) none Set.univ) (Set.mem_univ _) (cr := Finsupp.single j 1) (O := owedAt c n) (W := W) {(csem (.crd b), j)}
      (R := 0) (m := j) (T := T) (Finsupp.sum_single_index rfl) (by
        intro x hx
        obtain ⟨i, hi, rfl⟩ := Finset.mem_image.mp hx
        rw [Finset.mem_singleton.mp (Finsupp.support_single_subset hi)]
        exact Finset.mem_singleton_self _)) $$ [Hc HO Ha]
  · isplitr; · iexact HI
    isplitl [Hc]; · iexact Hc
    isplitl [HO]; · iexact HO
    isplitr; · iapply (mayWait_at c n (csem (.crd b)) j (2 * j + 3) (by omega) (lv_kc c (.crd b) j) hlv) $$ Hlev
    iexact Ha
  iintro %S ⟨%hS, HO, Ha, Hp⟩
  obtain ⟨hTS, hSd, hcard⟩ := hS
  rw [hdu] at hSd hcard
  rw [hex] at hcard
  have hSc : j + 1 ≤ S.card := by
    have h1 := Finset.card_sdiff_of_subset hSd
    have h2 := Finset.card_le_card hSd
    rw [Finset.card_range] at h1 h2
    omega
  obtain ⟨d, hdS, hjd⟩ : ∃ d ∈ S, j ≤ d := by
    by_contra hne
    have : S ⊆ Finset.range j := fun d hd => Finset.mem_range.mpr (by by_contra hlt; exact hne ⟨d, hd, by omega⟩)
    have := Finset.card_le_card this
    rw [Finset.card_range] at this
    omega
  have hp : bigSep (S \ T) (fun d => (Rd m).payload (kc c (.crd b)) 0 d) = bigSep (S \ T) (fun d => Upto c b (d + 1)) :=
    bigSep_congr fun d _ => payload_kc m c (.crd b) 0 d
  ihave #Hp := (Entails.of_eq hp) $$ Hp
  ihave #HS : bigSep S (fun d => Upto c b (d + 1)) $$ []
  · have h : (iprop(bigSep T (fun d => Upto c b (d + 1)) ∗ bigSep (S \ T) (fun d => Upto c b (d + 1))) : sProp 𝕄) ⊢ bigSep S (fun d => Upto c b (d + 1)) := by
      refine Entails.of_eq ?_
      conv_rhs => rw [← Finset.union_sdiff_of_subset hTS]
      exact (bigSep_union Finset.disjoint_sdiff).symm
    iapply h
    isplitr; · iexact HT
    iexact Hp
  have hU : (bigSep S (fun d => Upto c b (d + 1)) : sProp 𝕄) ⊢ Upto c b (j + 1) :=
    (bigSep_elim hdS).trans (Upto_mono c b (by omega))
  ihave #HU' := hU $$ HS
  iapply Hk
  isplitl [HO]; · iexists _; iexact HO
  isplitl [Ha]
  · iexists S
    isplitr; · ipureintro; exact ⟨hSc, hSd⟩
    isplitl [Ha]; · iexact Ha
    iexact HS
  isplitl [Hcr]; · iexact Hcr
  iexact HU'

/-- A send slot's wait: its message is away and the slot free. -/
theorem step_swait (c : Dev nD) (b : Bool) (r : Fin 2) (R n : ℕ) (hR : R < 6)
    {sp : Space} {s' : Shape} {e' : EltTy} {srcM : Memref sig .tc sp s' e'} {hs : srcM.view.WordExact} {hd : (snM b r).view.WordExact}
    {k : PUnit → Prog (TpuEff nD τ sig (Elt F) Λ₀ .tc) α} :
    iprop(Recs m κ ζ ∗ Ow c n ∗ SBusy c b r R)
      ⊢ iprop((Ow c n ∗ SFree c b r (R + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (snS b r) srcM (snM b r) hs hd) k) Q) := by
  iintro ⟨#HR, HO, Hv⟩ Hk
  unfold Ow SBusy SFree
  icases HO with ⟨%W, HO⟩
  icases Hv with ⟨Ha, Hc⟩
  ihave #HI := (Recs_cell m κ ζ c (.snd b r)) $$ HR
  ihave #Hlev := (Recs_lev m κ ζ) $$ HR
  have hdu : dutiesK (.snd b r) R = {0} := if_pos hR
  iapply (Rounds.wp_wait_rest_token 𝒱₀ ER (Rd m) (c : Thread nD τ) none (κ := κ (c, .snd b r)) (sm := csem (.snd b r))
      (k' := (snM b r).view.dmaCredit)
      (wpE_waitDma2_eq 𝒱₀ (c : Thread nD τ) none Set.univ) (Set.mem_univ _) 0 (O := owedAt c n) (W := W) (R := R) (m := 0) (T := ∅)
      ((expect_kc m c (.snd b r) R).trans (by rw [hdu, Finset.card_singleton, Nat.one_mul, Nat.zero_add, N_eq']; rfl)).symm) $$ [Hc HO Ha]
  · isplitr; · iexact HI
    isplitl [Hc]; · rw [N_eq']; iexact Hc
    isplitl [HO]; · iexact HO
    isplitr; · iapply (mayWait_at c n (csem (.snd b r)) 0 0 (by decide) (lv_kc c (.snd b r) 0) (fun e _ => lvE_pos e)) $$ Hlev
    iexact Ha
  iintro ⟨HO, Ha, Hr, Hp⟩
  have hp : bigSep ((Rd m).duties (kc c (.snd b r)) R \ ∅) (fun d => (Rd m).payload (kc c (.snd b r)) R d)
      = holdAny (c : Thread nD τ) (snV b r) := by
    rw [Finset.sdiff_empty, duties_kc, hdu, bigSep_singleton, payload_kc]; rfl
  ihave Hp := (Entails.of_eq hp) $$ Hp
  iapply Hk
  isplitl [HO]; · iexists _; iexact HO
  isplitl [Ha]; · iexact Ha
  isplitl [Hr] <;> iassumption

/-- A send: message `i` in direction `b`. -/
theorem step_send (c : Dev nD) (b : Bool) (i n : ℕ) {r : Fin 2} {r' : Fin 4} (hi : i < 12) (hr : r = f2 i) (hr' : r' = fm i)
    (he : evs.drop n = .send b i :: evs.drop (n + 1)) {d' : Dev nD} (hd' : d' = dst b c)
    {hsc : (rcM b r' : Memref sig (Dev.tc d' : Thread nD τ).2.kind .vmem S1024x1024 .bf16).view.ref.isScScratch = false}
    {hs : (snM b r).view.WordExact} {hd : (rcM b r').view.WordExact}
    {hsem : DmaTarget.Typed (nD := nD) .vmem (.dma (rcS b r')) (.remote (Dev.tc d' : Thread nD τ) (rcM b r') (.dma (snS b r)) hsc)}
    {k : PUnit → Prog (TpuEff nD τ sig (Elt F) Λ₀ .tc) α} :
    iprop(Recs m κ ζ ∗ Ow c n ∗ Snd c b i ∗ Upto c b (i - 3) ∗ atPos ER (kc c (.snd b r)) (i / 2) ∅ 0 ∗ reached ER (kc c (.snd b r)) (i / 2)
        ∗ hold (c : Thread nD τ) (snV b r) (msg m b i c))
      ⊢ iprop((Ow c (n + 1) ∗ Snd c b (i + 1) ∗ SBusy c b r (i / 2) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (snM b r) (.remote (Dev.tc d' : Thread nD τ) (rcM b r') (.dma (snS b r)) hsc) (.dma (rcS b r')) hs hd hsem) k) Q) := by
  subst hr hr' hd'
  iintro ⟨#HR, HO, HS, HU, Ha, Hr, Hh⟩ Hk
  unfold Ow Snd SBusy
  icases HO with ⟨%W, HO⟩
  ihave HS := (Entails.of_eq (ico_head hi _)) $$ HS
  unfold sendR
  icases HS with ⟨⟨Ht1, Ht2, Hw⟩, HS'⟩
  ihave HU := (Upto_get c b (k := i - 3) (i := i) (by omega)) $$ HU
  icases HU with ⟨Hrel, Hr2⟩
  ihave #HI1 := (Recs_cell m κ ζ c (.snd b (f2 i))) $$ HR
  ihave #HI2 := (Recs_cell m κ ζ (dst b c) (.rcv b (fm i))) $$ HR
  ihave #HS := (Recs_slot m κ ζ c b hi) $$ HR
  imod (slot_take ES (k := (c, b, i)) (S := slotOf (c, b, i)) (Set.mem_univ (ζ (c, b, i))) 1) $$ [Hrel Hw] with Hd
  · isplitr; · iexact HS
    isplitl [Hrel] <;> iassumption
  unfold slotOf
  ihave Hd := (Entails.of_eq (any_reshape (dst b c : Thread nD τ) (rcV b (fm i)) (squeezes_S1x1024x1024_S1024x1024.numel_eq)).symm) $$ Hd
  ihave Hh := (hold_reshape (c : Thread nD τ) (snV b (f2 i)) (squeezes_S1x1024x1024_S1024x1024.numel_eq) (msg m b i c)) $$ Hh
  unfold holdAny Release.slot
  icases Hd with ⟨%fd, Hd⟩
  unfold hold
  icases Hh with ⟨%fs, %hfs, Hf⟩
  have hd1 : dutiesK (.snd b (f2 i)) (i / 2) = {0} := if_pos (by omega)
  have hd2 : dutiesK (.rcv b (fm i)) (i / 4) = {0} := if_pos (by omega)
  iapply (Rounds.wp_send_pointsTo 𝒱₀ ER (Rd m) (c : Thread nD τ) none (src := snM b (f2 i)) (c' := (dst b c : Thread nD τ)) (dst := rcM b (fm i))
      (sS := .dma (snS b (f2 i))) (sem := .dma (rcS b (fm i)))
      (κ₁ := κ (c, .snd b (f2 i))) (κ₂ := κ (dst b c, .rcv b (fm i)))
      (r₁ := i / 2) (r₂ := i / 4) (d₁ := 0) (d₂ := 0) (fd := fd) (fs := fs) (q := fullShare)
      ((duties_kc m c (.snd b (f2 i)) (i / 2)).symm ▸ hd1 ▸ Finset.mem_singleton_self 0)
      ((duties_kc m (dst b c) (.rcv b (fm i)) (i / 4)).symm ▸ hd2 ▸ Finset.mem_singleton_self 0)
      i 0 N (N_eq b (fm i)) (amount_kc m c (.snd b (f2 i)) (i / 2) 0) (amount_kc m (dst b c) (.rcv b (fm i)) (i / 4) 0)
      (owedAt c (n + 1)) (owedAt_step c he) (W := W)
      (by rw [payload_kc m c (.snd b (f2 i))]; exact sendPay_any c b (f2 i) fs)
      (by
        rw [payload_kc m (dst b c) (.rcv b (fm i))]
        show _ ⊢ hold (dst b c : Thread nD τ) (rcV b (fm i)) (msg m b (4 * (i / 4) + i % 4) (src b (dst b c)))
        rw [Nat.div_add_mod, src_dst]
        refine BIBase.Entails.trans ?_ (hold_unreshape (dst b c : Thread nD τ) (rcV b (fm i)) (squeezes_S1x1024x1024_S1024x1024.numel_eq) (msg m b i c))
        rw [← hfs]
        exact hold_intro (dst b c : Thread nD τ) (rcM b (fm i)).view _ (View.read_write_univ _ _))) $$ [HO Hr Ht1 Ht2 Hr2 Hf Hd]
  · isplitr; · iexact HI1
    isplitr; · iexact HI2
    isplitl [Hf]; · iexact Hf
    isplitl [Hd]; · iexact Hd
    isplitl [HO]; · iexact HO
    isplitl [Ht1]; · iexact Ht1
    isplitl [Hr]; · iexact Hr
    isplitl [Ht2]; · iexact Ht2
    iexact Hr2
  iintro ⟨Hc, HO⟩
  iapply Hk
  isplitl [HO]; · iexists W; iexact HO
  isplitl [HS']; · iexact HS'
  isplitl [Ha]; · iexact Ha
  iexact Hc

end Cert.KernelIdeal.Ring

end
-- ==== Proof.IMacros.lean ====
/-
The steps of the program that move blocks and tiles, read them for the products, and receive and send messages in
both directions at once.
-/
module

public import proofs.«01_k».proof.Proof.ISteps

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (κ : Dev nD × CK → ℕ) (ζ : KeyT → ℕ)

/-! ## The arrays and what is held of them -/

abbrev HX : Memref sig .tc .hbm S4096x1024 .f32 := Memref.whole main_arg0
abbrev HW : Memref sig .tc .hbm S1024x8192 .f32 := Memref.whole main_arg1
abbrev HY : Memref sig .tc .hbm S1024x8192 .f32 := Memref.whole main_v1
abbrev A5 : Memref sig .tc .vmem S4096x1024 .fp8e4m3 := Memref.whole cc0_scratch0
abbrev A6 : Memref sig .tc .vmem S1024x1024 .f32 := Memref.whole cc0_scratch1
abbrev A7 : Memref sig .tc .vmem S1024x8192 .fp8e4m3 := Memref.whole cc0_scratch2
abbrev A8 : Memref sig .tc .vmem S1024x2048 .f32 := Memref.whole cc0_scratch3
abbrev xS : DmaSem sig := cc0_scratch14.sem
abbrev wS : DmaSem sig := cc0_scratch15.sem
abbrev oS : DmaSem sig := cc0_scratch16.sem

theorem lv_local (c : Dev nD) {s : SemLoc sig} (h : kindOf s = none) : lv ((c : Thread nD τ), s) 0 = 0 := by
  show (kindOf s).elim 0 (fun k => lvK k 0) = 0
  rw [h]; rfl
theorem kind_x : kindOf (.dma xS) = none := by decide +kernel
theorem kind_w : kindOf (.dma wS) = none := by decide +kernel
theorem kind_o : kindOf (.dma oS) = none := by decide +kernel

/-- A block of rows of `x` in the large memory; -/
def XH (c : Dev nD) (j : ℕ) : sProp 𝕄 := hold (c : Thread nD τ) (HX.access (chunkR c j)) (xs m c j)
/-- on its way to the staging buffer; -/
def XF (c : Dev nD) (j : ℕ) : sProp 𝕄 :=
  Transfers.Flight EC (c : Thread nD τ) (.dma xS) 0 A6.view.dmaCredit iprop(hold (c : Thread nD τ) A6.view (xs m c j) ∗ hold (c : Thread nD τ) (HX.access (chunkR c j)) (xs m c j))
/-- no block on its way. -/
def X0 (c : Dev nD) : sProp 𝕄 := iprop(holdAny (c : Thread nD τ) A6.view ∗ semVal ((c : Thread nD τ), .dma xS) 0)
/-- A tile of `w` in the large memory; -/
def WH (c : Dev nD) (t : Fin 4) : sProp 𝕄 := hold (c : Thread nD τ) (HW.access (tileR t)) (ws m c t)
/-- on its way to the staging buffer; -/
def WF (c : Dev nD) (t : Fin 4) : sProp 𝕄 :=
  Transfers.Flight EC (c : Thread nD τ) (.dma wS) 0 A8.view.dmaCredit iprop(hold (c : Thread nD τ) A8.view (ws m c t) ∗ hold (c : Thread nD τ) (HW.access (tileR t)) (ws m c t))
/-- Blocks of rows ready for the products; -/
def X8s (c : Dev nD) (S : Finset ℕ) : sProp 𝕄 := bigSep S fun j => hold (c : Thread nD τ) (A5.access (chunkR c j)) (x8 m c j)
/-- tiles ready for the products. -/
def W8s (c : Dev nD) (S : Finset (Fin 4)) : sProp 𝕄 := bigSep S fun t => hold (c : Thread nD τ) (A7.access (tileR t)) (w8 m c t)

/-! ## Both directions together -/

def Snd2 (c : Dev nD) (i : ℕ) : sProp 𝕄 := iprop(Snd c false i ∗ Snd c true i)
def SF2 (c : Dev nD) (r : Fin 2) (n : ℕ) : sProp 𝕄 := iprop(SFree c false r n ∗ SFree c true r n)
def SB2 (c : Dev nD) (r : Fin 2) (n : ℕ) : sProp 𝕄 := iprop(SBusy c false r n ∗ SBusy c true r n)
def Rcv2 (c : Dev nD) (k : ℕ) : sProp 𝕄 := iprop(Rcv c false k ∗ Rcv c true k)
def Crd2 (c : Dev nD) (j : ℕ) : sProp 𝕄 := iprop(Crd c false j ∗ Crd c true j)
def Giv2 (c : Dev nD) (k : ℕ) : sProp 𝕄 := iprop(Giv c false k ∗ Giv c true k)
/-- Message `k` received, not yet given back. -/
def Got (c : Dev nD) (b : Bool) (k : ℕ) : sProp 𝕄 :=
  iprop(hold (c : Thread nD τ) (rcV b (fm k)) (msg m b k (src b c)) ∗ reached ER (kc c (.rcv b (fm k))) (k / 4 + 1))
def Got2 (c : Dev nD) (k : ℕ) : sProp 𝕄 := iprop(Got m c false k ∗ Got m c true k)

variable {α : Type} {Q : α → sProp (MT nD τ sig ℕ (Elt F) ℕ UU ℕ)}

/-- A wait for a local copy. -/
theorem step_lwait (c : Dev nD) (n : ℕ) {sem : DmaSem sig} (hl : kindOf (.dma sem) = none) {sp sp' : Space} {s s' : Shape} {e e' : EltTy}
    {srcw : Memref sig .tc sp' s' e'} {dstw : Memref sig .tc sp s e} {hs : srcw.view.WordExact} {hd : dstw.view.WordExact}
    {N' : ℕ} (hN : dstw.view.dmaCredit = N') {D : sProp 𝕄} {k : PUnit → Prog (TpuEff nD τ sig (Elt F) Λ₀ .tc) α} :
    iprop(Recs m κ ζ ∗ Ow c n ∗ Transfers.Flight EC (c : Thread nD τ) (.dma sem) 0 N' D)
      ⊢ iprop((Ow c n ∗ D ∗ semVal ((c : Thread nD τ), .dma sem) 0 -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hs hd) k) Q) := by
  iintro ⟨#HR, HO, HF⟩ Hk
  unfold Ow
  icases HO with ⟨%W, HO⟩
  ihave #Hlev := (Recs_lev m κ ζ) $$ HR
  iapply (Transfers.wp_waitLocalO EC 𝒱₀ (c : Thread nD τ) none 0 hN (D := D) (O := owedAt c n) (W := W)) $$ [HF HO]
  · isplitl [HF]; · iexact HF
    isplitl [HO]; · iexact HO
    iapply (mayWait_at c n (.dma sem) 0 0 (by decide) (lv_local c hl) (fun e _ => lvE_pos e)) $$ Hlev
  iintro ⟨HD, Hv, HO⟩
  iapply Hk
  isplitl [HO]; · iexists _; iexact HO
  isplitl [HD] <;> iassumption

/-- A block of rows of `x` sent to the staging buffer. -/
theorem mac_xenq (c : Dev nD) (j : ℕ) {off : Fin 2 → ℕ} (ho : off = ![1024 * ((c.val + j) % 4), 0])
    {inb : ∀ a, off a + S1024x1024.size a ≤ S4096x1024.size a} {hu} {hs : (HX.slice (Rect.unit (s := S4096x1024) off S1024x1024.size inb) hu).view.WordExact}
    {hd : A6.view.WordExact} {hsem} {k : PUnit → Prog (TpuEff nD τ sig (Elt F) Λ₀ .tc) α} :
    iprop(XH m c j ∗ X0 c)
      ⊢ iprop((XF m c j -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (HX.slice (Rect.unit (s := S4096x1024) off S1024x1024.size inb) hu) (.here A6) (.dma xS) hs hd hsem) k) Q) := by
  subst ho
  unfold X0 XF
  iintro ⟨HX, HA, Hv⟩ Hk
  iapply (wp_hold_dma (defs := defs₀ (F := F)) 𝒱₀ (c : Thread nD τ) none EC 0 A6.view.dmaCredit rfl (View.dmaCredit_pos _ (by decide))) $$ [HX HA Hv]
  · unfold XH
    isplitl [HX]; · iexact HX
    isplitl [HA] <;> iassumption
  iintro HF
  iapply Hk $$ HF

/-- A tile of `w` sent to the staging buffer. -/
theorem mac_wenq (c : Dev nD) (t : Fin 4) {off : Fin 2 → ℕ} (ho : off = ![0, 2048 * t.val])
    {inb : ∀ a, off a + S1024x2048.size a ≤ S1024x8192.size a} {hu} {hs : (HW.slice (Rect.unit (s := S1024x8192) off S1024x2048.size inb) hu).view.WordExact}
    {hd : A8.view.WordExact} {hsem} {k : PUnit → Prog (TpuEff nD τ sig (Elt F) Λ₀ .tc) α} :
    iprop(WH m c t ∗ holdAny (c : Thread nD τ) A8.view ∗ semVal ((c : Thread nD τ), .dma wS) 0)
      ⊢ iprop((WF m c t -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (HW.slice (Rect.unit (s := S1024x8192) off S1024x2048.size inb) hu) (.here A8) (.dma wS) hs hd hsem) k) Q) := by
  subst ho
  iintro ⟨HX, HA, Hv⟩ Hk
  unfold WF
  iapply (wp_hold_dma (defs := defs₀ (F := F)) 𝒱₀ (c : Thread nD τ) none EC 0 A8.view.dmaCredit rfl (View.dmaCredit_pos _ (by decide))) $$ [HX HA Hv]
  · unfold WH
    isplitl [HX]; · iexact HX
    isplitl [HA] <;> iassumption
  iintro HF
  iapply Hk $$ HF

theorem z2 : ∀ a, (![0, 0] : Fin 2 → ℕ) a = 0 := by decide

/-- A block of rows of `x` taken from the staging buffer and made ready for the products. -/
theorem mac_xstage (c : Dev nD) (n j : ℕ) (S : Finset ℕ) (hj : j ∉ S) {off : Fin 2 → ℕ} (ho : off = ![1024 * ((c.val + j) % 4), 0])
    {inb : ∀ a, off a + S1024x1024.size a ≤ S4096x1024.size a} {sp : Space} {s' : Shape} {e' : EltTy} {srcw : Memref sig .tc sp s' e'}
    {hs : srcw.view.WordExact} {hd : A6.view.WordExact} {i0 : ∀ a, (![0, 0] : Fin 2 → ℕ) a + S1024x1024.size a ≤ S1024x1024.size a} {hl1} {hl2} {hx} {hm}
    {w : Vec F S1024x1024 .f32 → Vec F S1024x1024 .fp8e4m3} (hw : ∀ v, w v = k0_pay2 v)
    {k : PUnit → Prog (TpuEff nD τ sig (Elt F) Λ₀ .tc) α} :
    iprop(Recs m κ ζ ∗ Ow c n ∗ XF m c j ∗ X8s m c S ∗ holdAny (c : Thread nD τ) (A5.access (chunkR c j)))
      ⊢ iprop((Ow c n ∗ X0 c ∗ XH m c j ∗ X8s m c (insert j S) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 xS srcw A6 hs hd) fun _ =>
              .op (.load A6 (Rect.unit (s := S1024x1024) ![0, 0] S1024x1024.size i0).toLoadRect hl1) fun v =>
              .op (.load A5 (Rect.unit (s := S4096x1024) off S1024x1024.size inb).toLoadRect hl2) fun _ =>
              .op (.store A5 (Rect.unit (s := S4096x1024) off S1024x1024.size inb) (w v) Finset.univ hx hm) k) Q) := by
  subst ho
  iintro ⟨#HR, HO, HF, HS, HA⟩ Hk
  unfold XF
  iapply (step_lwait m κ ζ c n kind_x rfl) $$ [HO HF]
  · isplitr; · iexact HR
    isplitl [HO] <;> iassumption
  iintro ⟨HO, ⟨H6, HX⟩, Hv⟩
  ihave H6 := (Entails.of_eq (hold_full (c : Thread nD τ) A6.view ![0, 0] z2 i0 (xs m c j)).symm) $$ H6
  iapply (wp_hold_load (defs := defs₀ (F := F)) 𝒱₀ (c : Thread nD τ) none (m := A6)) $$ H6
  iintro H6
  ihave H6 := (Entails.of_eq (hold_full (c : Thread nD τ) A6.view ![0, 0] z2 i0 (xs m c j))) $$ H6
  iapply (wp_any_load (defs := defs₀ (F := F)) 𝒱₀ (c : Thread nD τ) none (m := A5) (r := chunkR c j)) $$ HA
  iintro %_ HA
  iapply (wp_hold_store (defs := defs₀ (F := F)) 𝒱₀ (c : Thread nD τ) none (m := A5) (r := chunkR c j)) $$ HA
  iintro HA
  iapply Hk
  isplitl [HO]; · iexact HO
  isplitl [H6 Hv]
  · unfold X0
    isplitl [H6]; · iapply (hold_any (c : Thread nD τ) A6.view (xs m c j)) $$ H6
    iexact Hv
  isplitl [HX]; · unfold XH; iexact HX
  unfold X8s
  iapply (Entails.of_eq (show (bigSep (insert j S) (fun j => hold (c : Thread nD τ) (A5.access (chunkR c j)) (x8 m c j)) : sProp 𝕄)
    = iprop(hold (c : Thread nD τ) (A5.access (chunkR c j)) (x8 m c j) ∗ bigSep S (fun j => hold (c : Thread nD τ) (A5.access (chunkR c j)) (x8 m c j))) from
      bigSep_insert hj).symm)
  isplitl [HA]
  · unfold x8; rw [← hw]; iexact HA
  · iexact HS

/-- A tile of `w` taken from the staging buffer and made ready for the products. -/
theorem mac_wstage (c : Dev nD) (n : ℕ) (t : Fin 4) (S : Finset (Fin 4)) (hj : t ∉ S) {off : Fin 2 → ℕ} (ho : off = ![0, 2048 * t.val])
    {inb : ∀ a, off a + S1024x2048.size a ≤ S1024x8192.size a} {sp : Space} {s' : Shape} {e' : EltTy} {srcw : Memref sig .tc sp s' e'}
    {hs : srcw.view.WordExact} {hd : A8.view.WordExact} {i0 : ∀ a, (![0, 0] : Fin 2 → ℕ) a + S1024x2048.size a ≤ S1024x2048.size a} {hl1} {hl2} {hx} {hm}
    {w : Vec F S1024x2048 .f32 → Vec F S1024x2048 .fp8e4m3} (hw : ∀ v, w v = k0_pay4 v)
    {k : PUnit → Prog (TpuEff nD τ sig (Elt F) Λ₀ .tc) α} :
    iprop(Recs m κ ζ ∗ Ow c n ∗ WF m c t ∗ W8s m c S ∗ holdAny (c : Thread nD τ) (A7.access (tileR t)))
      ⊢ iprop((Ow c n ∗ holdAny (c : Thread nD τ) A8.view ∗ semVal ((c : Thread nD τ), .dma wS) 0 ∗ WH m c t ∗ W8s m c (insert t S)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 wS srcw A8 hs hd) fun _ =>
              .op (.load A8 (Rect.unit (s := S1024x2048) ![0, 0] S1024x2048.size i0).toLoadRect hl1) fun v =>
              .op (.load A7 (Rect.unit (s := S1024x8192) off S1024x2048.size inb).toLoadRect hl2) fun _ =>
              .op (.store A7 (Rect.unit (s := S1024x8192) off S1024x2048.size inb) (w v) Finset.univ hx hm) k) Q) := by
  subst ho
  iintro ⟨#HR, HO, HF, HS, HA⟩ Hk
  unfold WF
  iapply (step_lwait m κ ζ c n kind_w rfl) $$ [HO HF]
  · isplitr; · iexact HR
    isplitl [HO] <;> iassumption
  iintro ⟨HO, ⟨H6, HX⟩, Hv⟩
  ihave H6 := (Entails.of_eq (hold_full (c : Thread nD τ) A8.view ![0, 0] z2 i0 (ws m c t)).symm) $$ H6
  iapply (wp_hold_load (defs := defs₀ (F := F)) 𝒱₀ (c : Thread nD τ) none (m := A8)) $$ H6
  iintro H6
  ihave H6 := (Entails.of_eq (hold_full (c : Thread nD τ) A8.view ![0, 0] z2 i0 (ws m c t))) $$ H6
  iapply (wp_any_load (defs := defs₀ (F := F)) 𝒱₀ (c : Thread nD τ) none (m := A7) (r := tileR t)) $$ HA
  iintro %_ HA
  iapply (wp_hold_store (defs := defs₀ (F := F)) 𝒱₀ (c : Thread nD τ) none (m := A7) (r := tileR t)) $$ HA
  iintro HA
  iapply Hk
  isplitl [HO]; · iexact HO
  isplitl [H6]; · iapply (hold_any (c : Thread nD τ) A8.view (ws m c t)) $$ H6
  isplitl [Hv]; · iexact Hv
  isplitl [HX]; · unfold WH; iexact HX
  unfold W8s
  iapply (Entails.of_eq (show (bigSep (insert t S) (fun t => hold (c : Thread nD τ) (A7.access (tileR t)) (w8 m c t)) : sProp 𝕄)
    = iprop(hold (c : Thread nD τ) (A7.access (tileR t)) (w8 m c t) ∗ bigSep S (fun t => hold (c : Thread nD τ) (A7.access (tileR t)) (w8 m c t))) from
      bigSep_insert hj).symm)
  isplitl [HA]
  · unfold w8; rw [← hw]; iexact HA
  · iexact HS

theorem ld_x8 (c : Dev nD) (j : ℕ) (S : Finset ℕ) (hj : j ∈ S) {off : Fin 2 → ℕ} (ho : off = ![1024 * ((c.val + j) % 4), 0])
    {inb : ∀ a, off a + S1024x1024.size a ≤ S4096x1024.size a} {hl}
    {k : Vec F S1024x1024 .fp8e4m3 → Prog (TpuEff nD τ sig (Elt F) Λ₀ .tc) α} :
    X8s m c S
      ⊢ iprop((X8s m c S -∗ wp frame (wpE (defs₀ (F := F)) 𝒱₀ (c : Thread nD τ) none) Set.univ (k (x8 m c j)) Q)
          -∗ wp frame (wpE (defs₀ (F := F)) 𝒱₀ (c : Thread nD τ) none) Set.univ
            (.op (.load A5 (Rect.unit (s := S4096x1024) off S1024x1024.size inb).toLoadRect hl) k) Q) := by
  subst ho
  unfold X8s
  iintro H Hk
  ihave H := (Entails.of_eq (show (bigSep S (fun j => hold (c : Thread nD τ) (A5.access (chunkR c j)) (x8 m c j)) : sProp 𝕄)
    = iprop(hold (c : Thread nD τ) (A5.access (chunkR c j)) (x8 m c j) ∗ bigSep (S.erase j) (fun j => hold (c : Thread nD τ) (A5.access (chunkR c j)) (x8 m c j)))
      from bigSep_erase hj)) $$ H
  icases H with ⟨H1, H2⟩
  iapply (wp_hold_load (defs := defs₀ (F := F)) 𝒱₀ (c : Thread nD τ) none (m := A5) (r := chunkR c j)) $$ H1
  iintro H1
  iapply Hk
  iapply (Entails.of_eq (show (bigSep S (fun j => hold (c : Thread nD τ) (A5.access (chunkR c j)) (x8 m c j)) : sProp 𝕄)
    = iprop(hold (c : Thread nD τ) (A5.access (chunkR c j)) (x8 m c j) ∗ bigSep (S.erase j) (fun j => hold (c : Thread nD τ) (A5.access (chunkR c j)) (x8 m c j)))
      from bigSep_erase hj).symm)
  isplitl [H1] <;> iassumption

theorem half_emb (t : Fin 4) (b : Bool) {off : Fin 2 → ℕ} (ho : off = ![0, 2048 * t.val + 1024 * b.toNat])
    (inb : ∀ a, off a + S1024x1024.size a ≤ S1024x8192.size a) (x : S1024x1024.Idx) :
    (Rect.unit (s := S1024x8192) off S1024x1024.size inb).emb x = (tileR t).emb ((halfR b).emb x) := by
  subst ho
  funext a
  refine Fin.ext ?_
  simp only [Rect.emb_apply]
  revert a
  refine Fin.forall_fin_two.mpr ⟨?_, ?_⟩
  · show 0 + 1 * (x 0 : ℕ) = 0 + 1 * (0 + 1 * (x 0 : ℕ))
    omega
  · show 2048 * t.val + 1024 * b.toNat + 1 * (x 1 : ℕ) = 2048 * t.val + 1 * (1024 * b.toNat + 1 * (x 1 : ℕ))
    omega

theorem ld_wh (c : Dev nD) (t : Fin 4) (b : Bool) (S : Finset (Fin 4)) (hj : t ∈ S) {off : Fin 2 → ℕ} (ho : off = ![0, 2048 * t.val + 1024 * b.toNat])
    {inb : ∀ a, off a + S1024x1024.size a ≤ S1024x8192.size a} {hl}
    {k : Vec F S1024x1024 .fp8e4m3 → Prog (TpuEff nD τ sig (Elt F) Λ₀ .tc) α} :
    W8s m c S
      ⊢ iprop((W8s m c S -∗ wp frame (wpE (defs₀ (F := F)) 𝒱₀ (c : Thread nD τ) none) Set.univ (k (wh m c t b)) Q)
          -∗ wp frame (wpE (defs₀ (F := F)) 𝒱₀ (c : Thread nD τ) none) Set.univ
            (.op (.load A7 (Rect.unit (s := S1024x8192) off S1024x1024.size inb).toLoadRect hl) k) Q) := by
  unfold W8s
  iintro H Hk
  ihave H := (Entails.of_eq (show (bigSep S (fun t => hold (c : Thread nD τ) (A7.access (tileR t)) (w8 m c t)) : sProp 𝕄)
    = iprop(hold (c : Thread nD τ) (A7.access (tileR t)) (w8 m c t) ∗ bigSep (S.erase t) (fun t => hold (c : Thread nD τ) (A7.access (tileR t)) (w8 m c t)))
      from bigSep_erase hj)) $$ H
  icases H with ⟨H1, H2⟩
  iapply (wp_hold_load_sub (defs := defs₀ (F := F)) 𝒱₀ (c : Thread nD τ) none (m := A7) (r := Rect.unit (s := S1024x8192) off S1024x1024.size inb)
    (r₀ := tileR t) (fun x => (halfR b).emb x) (half_emb t b ho inb)) $$ H1
  iintro H1
  iapply Hk
  iapply (Entails.of_eq (show (bigSep S (fun t => hold (c : Thread nD τ) (A7.access (tileR t)) (w8 m c t)) : sProp 𝕄)
    = iprop(hold (c : Thread nD τ) (A7.access (tileR t)) (w8 m c t) ∗ bigSep (S.erase t) (fun t => hold (c : Thread nD τ) (A7.access (tileR t)) (w8 m c t)))
      from bigSep_erase hj).symm)
  isplitl [H1] <;> iassumption

theorem ld_w8 (c : Dev nD) (t : Fin 4) (S : Finset (Fin 4)) (hj : t ∈ S) {off : Fin 2 → ℕ} (ho : off = ![0, 2048 * t.val])
    {inb : ∀ a, off a + S1024x2048.size a ≤ S1024x8192.size a} {hl}
    {k : Vec F S1024x2048 .fp8e4m3 → Prog (TpuEff nD τ sig (Elt F) Λ₀ .tc) α} :
    W8s m c S
      ⊢ iprop((W8s m c S -∗ wp frame (wpE (defs₀ (F := F)) 𝒱₀ (c : Thread nD τ) none) Set.univ (k (w8 m c t)) Q)
          -∗ wp frame (wpE (defs₀ (F := F)) 𝒱₀ (c : Thread nD τ) none) Set.univ
            (.op (.load A7 (Rect.unit (s := S1024x8192) off S1024x2048.size inb).toLoadRect hl) k) Q) := by
  subst ho
  unfold W8s
  iintro H Hk
  ihave H := (Entails.of_eq (show (bigSep S (fun t => hold (c : Thread nD τ) (A7.access (tileR t)) (w8 m c t)) : sProp 𝕄)
    = iprop(hold (c : Thread nD τ) (A7.access (tileR t)) (w8 m c t) ∗ bigSep (S.erase t) (fun t => hold (c : Thread nD τ) (A7.access (tileR t)) (w8 m c t)))
      from bigSep_erase hj)) $$ H
  icases H with ⟨H1, H2⟩
  iapply (wp_hold_load (defs := defs₀ (F := F)) 𝒱₀ (c : Thread nD τ) none (m := A7) (r := tileR t)) $$ H1
  iintro H1
  iapply Hk
  iapply (Entails.of_eq (show (bigSep S (fun t => hold (c : Thread nD τ) (A7.access (tileR t)) (w8 m c t)) : sProp 𝕄)
    = iprop(hold (c : Thread nD τ) (A7.access (tileR t)) (w8 m c t) ∗ bigSep (S.erase t) (fun t => hold (c : Thread nD τ) (A7.access (tileR t)) (w8 m c t)))
      from bigSep_erase hj).symm)
  isplitl [H1] <;> iassumption

/-- The four loads of a stage's two products. -/
theorem mac_dots (c : Dev nD) (j1 j2 : ℕ) (t : Fin 4) {S : Finset ℕ} {S' : Finset (Fin 4)} (h1 : j1 ∈ S) (h2 : j2 ∈ S) (ht : t ∈ S')
    {o1 o2 o3 o4 : Fin 2 → ℕ} (ho1 : o1 = ![1024 * ((c.val + j1) % 4), 0]) (ho2 : o2 = ![0, 2048 * t.val + 1024 * false.toNat])
    (ho3 : o3 = ![1024 * ((c.val + j2) % 4), 0]) (ho4 : o4 = ![0, 2048 * t.val + 1024 * true.toNat])
    {i1 : ∀ a, o1 a + S1024x1024.size a ≤ S4096x1024.size a} {i2 : ∀ a, o2 a + S1024x1024.size a ≤ S1024x8192.size a}
    {i3 : ∀ a, o3 a + S1024x1024.size a ≤ S4096x1024.size a} {i4 : ∀ a, o4 a + S1024x1024.size a ≤ S1024x8192.size a} {l1 l2 l3 l4}
    {k : Vec F S1024x1024 .fp8e4m3 → Vec F S1024x1024 .fp8e4m3 → Vec F S1024x1024 .fp8e4m3 → Vec F S1024x1024 .fp8e4m3 → Prog (TpuEff nD τ sig (Elt F) Λ₀ .tc) α} :
    iprop(X8s m c S ∗ W8s m c S')
      ⊢ iprop((X8s m c S ∗ W8s m c S' -∗ wp frame (wpE (defs₀ (F := F)) 𝒱₀ (c : Thread nD τ) none) Set.univ
              (k (x8 m c j1) (wh m c t false) (x8 m c j2) (wh m c t true)) Q)
          -∗ wp frame (wpE (defs₀ (F := F)) 𝒱₀ (c : Thread nD τ) none) Set.univ
            (.op (.load A5 (Rect.unit (s := S4096x1024) o1 S1024x1024.size i1).toLoadRect l1) fun v1 =>
              .op (.load A7 (Rect.unit (s := S1024x8192) o2 S1024x1024.size i2).toLoadRect l2) fun v2 =>
              .op (.load A5 (Rect.unit (s := S4096x1024) o3 S1024x1024.size i3).toLoadRect l3) fun v3 =>
              .op (.load A7 (Rect.unit (s := S1024x8192) o4 S1024x1024.size i4).toLoadRect l4) fun v4 => k v1 v2 v3 v4) Q) := by
  iintro ⟨HX, HW⟩ Hk
  iapply (ld_x8 m c j1 S h1 ho1) $$ HX
  iintro HX
  iapply (ld_wh m c t false S' ht ho2) $$ HW
  iintro HW
  iapply (ld_x8 m c j2 S h2 ho3) $$ HX
  iintro HX
  iapply (ld_wh m c t true S' ht ho4) $$ HW
  iintro HW
  iapply Hk
  isplitl [HX] <;> iassumption

/-- The two loads of a tile's own product. -/
theorem mac_own (c : Dev nD) (t : Fin 4) {S : Finset ℕ} {S' : Finset (Fin 4)} (h1 : 0 ∈ S) (ht : t ∈ S')
    {o1 o2 : Fin 2 → ℕ} (ho1 : o1 = ![1024 * ((c.val + 0) % 4), 0]) (ho2 : o2 = ![0, 2048 * t.val])
    {i1 : ∀ a, o1 a + S1024x1024.size a ≤ S4096x1024.size a} {i2 : ∀ a, o2 a + S1024x2048.size a ≤ S1024x8192.size a} {l1 l2}
    {k : Vec F S1024x1024 .fp8e4m3 → Vec F S1024x2048 .fp8e4m3 → Prog (TpuEff nD τ sig (Elt F) Λ₀ .tc) α} :
    iprop(X8s m c S ∗ W8s m c S')
      ⊢ iprop((X8s m c S ∗ W8s m c S' -∗ wp frame (wpE (defs₀ (F := F)) 𝒱₀ (c : Thread nD τ) none) Set.univ (k (x8 m c 0) (w8 m c t)) Q)
          -∗ wp frame (wpE (defs₀ (F := F)) 𝒱₀ (c : Thread nD τ) none) Set.univ
            (.op (.load A5 (Rect.unit (s := S4096x1024) o1 S1024x1024.size i1).toLoadRect l1) fun v1 =>
              .op (.load A7 (Rect.unit (s := S1024x8192) o2 S1024x2048.size i2).toLoadRect l2) fun v2 => k v1 v2) Q) := by
  iintro ⟨HX, HW⟩ Hk
  iapply (ld_x8 m c 0 S h1 ho1) $$ HX
  iintro HX
  iapply (ld_w8 m c t S' ht ho2) $$ HW
  iintro HW
  iapply Hk
  isplitl [HX] <;> iassumption

/-- Both directions' message `kp` waited for and read. -/
theorem mac_recv (c : Dev nD) (kp n : ℕ) (hkp : kp < 12) (hlv : ∀ e ∈ evs.drop n, 2 * kp + 2 < lvE e)
    {s1 s2 : DmaSem sig} (hs1 : s1 = rcS false (fm kp)) (hs2 : s2 = rcS true (fm kp))
    {d1 d2 : Memref sig .tc .vmem S1024x1024 .bf16} (hd1 : d1 = rcM false (fm kp)) (hd2 : d2 = rcM true (fm kp))
    {sp1 sp2 : Space} {t1 t2 : Shape} {e1 e2 : EltTy} {m1 : Memref sig .tc sp1 t1 e1} {m2 : Memref sig .tc sp2 t2 e2}
    {w1 : m1.view.WordExact} {w2 : m2.view.WordExact} {w3 : d1.view.WordExact} {w4 : d2.view.WordExact}
    {o1 o2 : Fin 3 → ℕ} (ho1 : o1 = ![(fm kp).val, 0, 0]) (ho2 : o2 = ![(fm kp).val, 0, 0])
    {i1 : ∀ a, o1 a + S1x1024x1024.size a ≤ S4x1024x1024.size a} {i2 : ∀ a, o2 a + S1x1024x1024.size a ≤ S4x1024x1024.size a} {l1 l2}
    {k : Vec F S1x1024x1024 .bf16 → Vec F S1x1024x1024 .bf16 → Prog (TpuEff nD τ sig (Elt F) Λ₀ .tc) α} :
    iprop(Recs m κ ζ ∗ Ow c n ∗ Rcv2 c kp)
      ⊢ iprop((Ow c n ∗ Rcv2 c (kp + 1) ∗ Got2 m c kp -∗ wp frame (wpE (defs₀ (F := F)) 𝒱₀ (c : Thread nD τ) none) Set.univ
              (k (msg m false kp (src false c)) (msg m true kp (src true c))) Q)
          -∗ wp frame (wpE (defs₀ (F := F)) 𝒱₀ (c : Thread nD τ) none) Set.univ
            (.op (.waitDma2 s1 m1 d1 w1 w3) fun _ => .op (.waitDma2 s2 m2 d2 w2 w4) fun _ =>
              .op (.load (Memref.whole cc0_scratch6) (Rect.unit (s := S4x1024x1024) o1 S1x1024x1024.size i1).toLoadRect l1) fun v1 =>
              .op (.load (Memref.whole cc0_scratch7) (Rect.unit (s := S4x1024x1024) o2 S1x1024x1024.size i2).toLoadRect l2) fun v2 => k v1 v2) Q) := by
  subst hs1 hs2 hd1 hd2 ho1 ho2
  unfold Rcv2 Got2 Got
  iintro ⟨#HR, HO, H1, H2⟩ Hk
  iapply (step_recv m κ ζ c false kp n hkp rfl hlv) $$ [HO H1]
  · isplitr; · iexact HR
    isplitl [HO] <;> iassumption
  iintro ⟨HO, H1, Hg1, Hr1⟩
  iapply (step_recv m κ ζ c true kp n hkp rfl hlv) $$ [HO H2]
  · isplitr; · iexact HR
    isplitl [HO] <;> iassumption
  iintro ⟨HO, H2, Hg2, Hr2⟩
  iapply (wp_hold_load (defs := defs₀ (F := F)) 𝒱₀ (c : Thread nD τ) none (m := rcB false) (r := r4 (fm kp))) $$ Hg1
  iintro Hg1
  iapply (wp_hold_load (defs := defs₀ (F := F)) 𝒱₀ (c : Thread nD τ) none (m := rcB true) (r := r4 (fm kp))) $$ Hg2
  iintro Hg2
  iapply Hk
  isplitl [HO]; · iexact HO
  isplitl [H1 H2]; · isplitl [H1] <;> iassumption
  isplitl [Hg1 Hr1]; · isplitl [Hg1] <;> iassumption
  isplitl [Hg2] <;> iassumption

/-- Both directions' credit `kp` given. -/
theorem mac_give (c : Dev nD) (kp n : ℕ) (hkp : kp < 8) (he : evs.drop n = .cred false kp :: evs.drop (n + 1)) (he' : evs.drop (n + 1) = .cred true kp :: evs.drop (n + 2))
    {d1 d2 : Dev nD} (hd1 : d1 = src false c) (hd2 : d2 = src true c) {n1 n2 : ℕ} (hn1 : n1 = 1) (hn2 : n2 = 1)
    {k : PUnit → Prog (TpuEff nD τ sig (Elt F) Λ₀ .tc) α} :
    iprop(Recs m κ ζ ∗ Ow c n ∗ Giv2 c kp ∗ Got2 m c kp)
      ⊢ iprop((Ow c (n + 2) ∗ Giv2 c (kp + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (d1, .tc) cc0_scratch12.sem n1) fun _ => .op (.semSignal (d2, .tc) cc0_scratch13.sem n2) k) Q) := by
  unfold Giv2 Got2 Got
  iintro ⟨#HR, HO, ⟨H1, H2⟩, ⟨Hg1, Hr1⟩, Hg2, Hr2⟩ Hk
  iapply (step_credit m κ ζ c false hkp rfl he hd1 hn1) $$ [HO H1 Hg1 Hr1]
  · isplitr; · iexact HR
    isplitl [HO]; · iexact HO
    isplitl [H1]; · iexact H1
    isplitl [Hg1] <;> iassumption
  iintro ⟨HO, H1⟩
  iapply (step_credit m κ ζ c true hkp rfl he' hd2 hn2) $$ [HO H2 Hg2 Hr2]
  · isplitr; · iexact HR
    isplitl [HO]; · iexact HO
    isplitl [H2]; · iexact H2
    isplitl [Hg2] <;> iassumption
  iintro ⟨HO, H2⟩
  iapply Hk
  isplitl [HO]; · iexact HO
  isplitl [H1] <;> iassumption

/-- Both directions' credit `j` waited for. -/
theorem mac_cwait (c : Dev nD) (j n : ℕ) (hj : j < 8) (hlv : ∀ e ∈ evs.drop n, 2 * j + 3 < lvE e) {n1 n2 : ℕ} (hn1 : n1 = 1) (hn2 : n2 = 1)
    {k : PUnit → Prog (TpuEff nD τ sig (Elt F) Λ₀ .tc) α} :
    iprop(Recs m κ ζ ∗ Ow c n ∗ Crd2 c j)
      ⊢ iprop((Ow c n ∗ Crd2 c (j + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.semWait cc0_scratch12.sem n1) fun _ => .op (.semWait cc0_scratch13.sem n2) k) Q) := by
  unfold Crd2
  iintro ⟨#HR, HO, H1, H2⟩ Hk
  iapply (step_cwait m κ ζ c false j n hj hlv hn1) $$ [HO H1]
  · isplitr; · iexact HR
    isplitl [HO] <;> iassumption
  iintro ⟨HO, H1⟩
  iapply (step_cwait m κ ζ c true j n hj hlv hn2) $$ [HO H2]
  · isplitr; · iexact HR
    isplitl [HO] <;> iassumption
  iintro ⟨HO, H2⟩
  iapply Hk
  isplitl [HO]; · iexact HO
  isplitl [H1] <;> iassumption

/-- Both directions' send slot waited for. -/
theorem mac_swait (c : Dev nD) (r : Fin 2) (R n : ℕ) (hR : R < 6)
    {s1 s2 : DmaSem sig} (hs1 : s1 = snS false r) (hs2 : s2 = snS true r)
    {d1 d2 : Memref sig .tc .vmem S1024x1024 .bf16} (hd1 : d1 = snM false r) (hd2 : d2 = snM true r)
    {sp1 sp2 : Space} {t1 t2 : Shape} {e1 e2 : EltTy} {m1 : Memref sig .tc sp1 t1 e1} {m2 : Memref sig .tc sp2 t2 e2}
    {w1 : m1.view.WordExact} {w2 : m2.view.WordExact} {w3 : d1.view.WordExact} {w4 : d2.view.WordExact}
    {k : PUnit → Prog (TpuEff nD τ sig (Elt F) Λ₀ .tc) α} :
    iprop(Recs m κ ζ ∗ Ow c n ∗ SB2 c r R)
      ⊢ iprop((Ow c n ∗ SF2 c r (R + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 s1 m1 d1 w1 w3) fun _ => .op (.waitDma2 s2 m2 d2 w2 w4) k) Q) := by
  subst hs1 hs2 hd1 hd2
  unfold SB2 SF2
  iintro ⟨#HR, HO, H1, H2⟩ Hk
  iapply (step_swait m κ ζ c false r R n hR) $$ [HO H1]
  · isplitr; · iexact HR
    isplitl [HO] <;> iassumption
  iintro ⟨HO, H1⟩
  iapply (step_swait m κ ζ c true r R n hR) $$ [HO H2]
  · isplitr; · iexact HR
    isplitl [HO] <;> iassumption
  iintro ⟨HO, H2⟩
  iapply Hk
  isplitl [HO]; · iexact HO
  isplitl [H1] <;> iassumption

omit [FloatOps F] in
theorem Crd_upto (c : Dev nD) (b : Bool) (j : ℕ) : (Crd c b j : sProp 𝕄) ⊢ iprop(Crd c b j ∗ Upto c b j) := by
  unfold Crd
  iintro ⟨H1, H2, #HU⟩
  isplitl
  · isplitl [H1]; · iexact H1
    isplitl [H2]; · iexact H2
    iexact HU
  · iexact HU

/-- Both directions' message `i` written into its send slot and sent. -/
theorem mac_push (c : Dev nD) (i n : ℕ) {r : Fin 2} {R j : ℕ} (hr : r = f2 i) (hR : R = i / 2) (hj : j = i - 3) (hi : i < 12) (he : evs.drop n = .send false i :: evs.drop (n + 1)) (he' : evs.drop (n + 1) = .send true i :: evs.drop (n + 2))
    {o1 o2 o3 o4 : Fin 3 → ℕ} (ho1 : o1 = ![(f2 i).val, 0, 0]) (ho2 : o2 = ![(f2 i).val, 0, 0]) (ho3 : o3 = ![(f2 i).val, 0, 0]) (ho4 : o4 = ![(f2 i).val, 0, 0])
    {i1 : ∀ a, o1 a + S1x1024x1024.size a ≤ S2x1024x1024.size a} {i2 : ∀ a, o2 a + S1x1024x1024.size a ≤ S2x1024x1024.size a}
    {i3 : ∀ a, o3 a + S1x1024x1024.size a ≤ S2x1024x1024.size a} {i4 : ∀ a, o4 a + S1x1024x1024.size a ≤ S2x1024x1024.size a} {l1 l2 x1 x2 y1 y2}
    {v1 v2 : Vec F S1x1024x1024 .bf16} (hv1 : v1 = msg m false i c) (hv2 : v2 = msg m true i c)
    {s1 s2 r1 r2' : DmaSem sig} (hs1 : s1 = snS false (f2 i)) (hs2 : s2 = snS true (f2 i)) (hr1 : r1 = rcS false (fm i)) (hr2 : r2' = rcS true (fm i))
    {a1 a2 b1 b2 : Memref sig .tc .vmem S1024x1024 .bf16} (ha1 : a1 = snM false (f2 i)) (ha2 : a2 = snM true (f2 i))
    (hb1 : b1 = rcM false (fm i)) (hb2 : b2 = rcM true (fm i)) {e1 e2 : Dev nD} (hd1 : e1 = dst false c) (hd2 : e2 = dst true c)
    {hsc1 : (b1 : Memref sig (Dev.tc e1 : Thread nD τ).2.kind .vmem S1024x1024 .bf16).view.ref.isScScratch = false}
    {hsc2 : (b2 : Memref sig (Dev.tc e2 : Thread nD τ).2.kind .vmem S1024x1024 .bf16).view.ref.isScScratch = false}
    {p1 : a1.view.WordExact} {p2 : a2.view.WordExact} {q1 : b1.view.WordExact} {q2 : b2.view.WordExact}
    {z1 : DmaTarget.Typed (nD := nD) .vmem (.dma r1) (.remote (Dev.tc e1 : Thread nD τ) b1 (.dma s1) hsc1)}
    {z2 : DmaTarget.Typed (nD := nD) .vmem (.dma r2') (.remote (Dev.tc e2 : Thread nD τ) b2 (.dma s2) hsc2)}
    {k : PUnit → Prog (TpuEff nD τ sig (Elt F) Λ₀ .tc) α} :
    iprop(Recs m κ ζ ∗ Ow c n ∗ Snd2 c i ∗ Crd2 c j ∗ SF2 c r R)
      ⊢ iprop((Ow c (n + 2) ∗ Snd2 c (i + 1) ∗ Crd2 c j ∗ SB2 c r R
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_scratch4) (Rect.unit (s := S2x1024x1024) o1 S1x1024x1024.size i1).toLoadRect l1) fun _ =>
              .op (.store (Memref.whole cc0_scratch4) (Rect.unit (s := S2x1024x1024) o2 S1x1024x1024.size i2) v1 Finset.univ x1 y1) fun _ =>
              .op (.load (Memref.whole cc0_scratch5) (Rect.unit (s := S2x1024x1024) o3 S1x1024x1024.size i3).toLoadRect l2) fun _ =>
              .op (.store (Memref.whole cc0_scratch5) (Rect.unit (s := S2x1024x1024) o4 S1x1024x1024.size i4) v2 Finset.univ x2 y2) fun _ =>
              .op (.enqueueDma a1 (.remote (Dev.tc e1 : Thread nD τ) b1 (.dma s1) hsc1) (.dma r1) p1 q1 z1) fun _ =>
              .op (.enqueueDma a2 (.remote (Dev.tc e2 : Thread nD τ) b2 (.dma s2) hsc2) (.dma r2') p2 q2 z2) k) Q) := by
  subst hr hR hj
  subst ho1 ho2 ho3 ho4 hv1 hv2 hs1 hs2 hr1 hr2 ha1 ha2 hb1 hb2
  unfold Snd2 Crd2 SF2 SB2 SFree
  iintro ⟨#HR, HO, ⟨H1, H2⟩, ⟨HC1, HC2⟩, ⟨Ha1, Hr1, Hs1⟩, Ha2, Hr2, Hs2⟩ Hk
  iapply (wp_any_load (defs := defs₀ (F := F)) 𝒱₀ (c : Thread nD τ) none (m := snB false) (r := r2 (f2 i))) $$ Hs1
  iintro %_ Hs1
  iapply (wp_hold_store (defs := defs₀ (F := F)) 𝒱₀ (c : Thread nD τ) none (m := snB false) (r := r2 (f2 i))) $$ Hs1
  iintro Hs1
  iapply (wp_any_load (defs := defs₀ (F := F)) 𝒱₀ (c : Thread nD τ) none (m := snB true) (r := r2 (f2 i))) $$ Hs2
  iintro %_ Hs2
  iapply (wp_hold_store (defs := defs₀ (F := F)) 𝒱₀ (c : Thread nD τ) none (m := snB true) (r := r2 (f2 i))) $$ Hs2
  iintro Hs2
  ihave HC1 := (Crd_upto c false (i - 3)) $$ HC1
  icases HC1 with ⟨HC1, HU1⟩
  ihave HC2 := (Crd_upto c true (i - 3)) $$ HC2
  icases HC2 with ⟨HC2, HU2⟩
  iapply (step_send m κ ζ c false i n hi rfl rfl he hd1) $$ [HO H1 HU1 Ha1 Hr1 Hs1]
  · isplitr; · iexact HR
    isplitl [HO]; · iexact HO
    isplitl [H1]; · iexact H1
    isplitl [HU1]; · iexact HU1
    isplitl [Ha1]; · iexact Ha1
    isplitl [Hr1] <;> iassumption
  iintro ⟨HO, H1, HB1⟩
  iapply (step_send m κ ζ c true i (n + 1) hi rfl rfl he' hd2) $$ [HO H2 HU2 Ha2 Hr2 Hs2]
  · isplitr; · iexact HR
    isplitl [HO]; · iexact HO
    isplitl [H2]; · iexact H2
    isplitl [HU2]; · iexact HU2
    isplitl [Ha2]; · iexact Ha2
    isplitl [Hr2] <;> iassumption
  iintro ⟨HO, H2, HB2⟩
  iapply Hk
  isplitl [HO]; · iexact HO
  isplitl [H1 H2]; · isplitl [H1] <;> iassumption
  isplitl [HC1 HC2]; · isplitl [HC1] <;> iassumption
  isplitl [HB1] <;> iassumption

end Cert.KernelIdeal.Ring

end
-- ==== Proof.IOut.lean ====
/-
The steps that write a finished tile and send it to the result.
-/
module

public import proofs.«01_k».proof.Proof.IMacros

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (κ : Dev nD × CK → ℕ) (ζ : KeyT → ℕ)

variable {α : Type} {Q : α → sProp (MT nD τ sig ℕ (Elt F) ℕ UU ℕ)}

/-! ## The finished tiles -/

/-- The half of a finished tile that direction `b` completes: the device's own product with what was received added,
    scaled, its negative entries set to zero. -/
def outH (sc : F .f32) (c : Dev nD) (t : Fin 4) : Bool → Vec F S1024x1024 .f32
  | false => k0_pay49 sc (k0_pay47 (x8 m c 0) (w8 m c t)) (k0_pay48 (msgS m false t 2 (src false c)))
  | true => k0_pay50 sc (k0_pay47 (x8 m c 0) (w8 m c t)) (msgS m true t 2 (src true c))

set_option backward.proofsInPublic true in
/-- A column of a tile within its half. -/
def halfIdx (x : S1024x2048.Idx) : S1024x1024.Idx := fun a =>
  match a with
  | ⟨0, _⟩ => (x 0 : Fin 1024)
  | ⟨1, _⟩ => (⟨(x 1 : Fin 2048).val % 1024, Nat.mod_lt _ (by decide)⟩ : Fin 1024)

/-- The finished tile. -/
def outT (sc : F .f32) (c : Dev nD) (t : Fin 4) : Vec F S1024x2048 .f32 := fun x =>
  outH m sc c t (decide (1024 ≤ (x 1 : Fin 2048).val)) (halfIdx x)

theorem half_val0 (b : Bool) (y : S1024x1024.Idx) : (((halfR b).emb y) 0 : ℕ) = (y 0 : ℕ) := by
  show 0 + 1 * (y 0 : ℕ) = y 0
  omega
theorem half_val1 (b : Bool) (y : S1024x1024.Idx) : (((halfR b).emb y) 1 : ℕ) = 1024 * b.toNat + (y 1 : ℕ) := by
  show 1024 * b.toNat + 1 * (y 1 : ℕ) = 1024 * b.toNat + y 1
  omega

theorem halfIdx_emb (b : Bool) (y : S1024x1024.Idx) : halfIdx ((halfR b).emb y) = y := by
  funext a
  revert a
  refine Fin.forall_fin_two.mpr ⟨Fin.ext (half_val0 b y), Fin.ext ?_⟩
  show (((halfR b).emb y) 1 : ℕ) % 1024 = (y 1 : ℕ)
  have h : (y 1 : ℕ) < 1024 := (y 1 : Fin 1024).isLt
  rw [half_val1]
  cases b <;> simp [Bool.toNat] <;> omega

theorem half_dec (b : Bool) (y : S1024x1024.Idx) : decide (1024 ≤ (((halfR b).emb y) 1 : ℕ)) = b := by
  have h : (y 1 : ℕ) < 1024 := (y 1 : Fin 1024).isLt
  rw [half_val1]
  cases b
  · exact decide_eq_false (by simp [Bool.toNat]; omega)
  · exact decide_eq_true (by simp [Bool.toNat])

theorem outT_emb (sc : F .f32) (c : Dev nD) (t : Fin 4) (b : Bool) :
    (fun x => outT m sc c t ((halfR b).emb x)) = outH m sc c t b := by
  funext x
  show outH m sc c t (decide (1024 ≤ (((halfR b).emb x) 1 : ℕ))) (halfIdx ((halfR b).emb x)) = _
  rw [half_dec, halfIdx_emb]

/-- The two halves of a tile. -/
def halves (i : Fin 2) : Rect S1024x2048 := halfR (decide (i = 1))

theorem halves_disj : ∀ i j, i ≠ j → Disjoint (halves i).set (halves j).set := by
  have h : Disjoint (halfR false).set (halfR true).set := by
    refine Finset.disjoint_left.mpr fun y h1 h2 => ?_
    obtain ⟨a, -, rfl⟩ := Finset.mem_map.mp ((Rect.map_emb_univ (halfR false)) ▸ h1)
    obtain ⟨b, -, hb⟩ := Finset.mem_map.mp ((Rect.map_emb_univ (halfR true)) ▸ h2)
    have h3 := half_dec false a
    have h4 := half_dec true b
    rw [hb] at h4
    exact absurd (h3.symm.trans h4) (by decide)
  intro i j hij
  match i, j with
  | 0, 0 => exact absurd rfl hij
  | 0, 1 => exact h
  | 1, 0 => exact h.symm
  | 1, 1 => exact absurd rfl hij

theorem halves_cover : ∀ x : S1024x2048.Idx, ∃ i, x ∈ (halves i).set := by
  intro x
  have key : ∀ b : Bool, decide (1024 ≤ (x 1 : ℕ)) = b → x ∈ (halfR b).set := by
    intro b hb
    have e : (halfR b).emb (halfIdx x) = x := by
      funext a
      revert a
      have h : (x 1 : ℕ) < 2048 := (x 1 : Fin 2048).isLt
      refine Fin.forall_fin_two.mpr ⟨Fin.ext ((half_val0 b _).trans rfl), Fin.ext ((half_val1 b _).trans ?_)⟩
      show 1024 * b.toNat + (x 1 : ℕ) % 1024 = (x 1 : ℕ)
      subst hb
      by_cases h' : 1024 ≤ (x 1 : ℕ)
      · rw [decide_eq_true h']; simp [Bool.toNat]; omega
      · rw [decide_eq_false h']; simp [Bool.toNat]; omega
    rw [← e]
    exact (Rect.map_emb_univ (halfR b)) ▸ Finset.mem_map_of_mem _ (Finset.mem_univ _)
  by_cases h' : 1024 ≤ (x 1 : ℕ)
  · exact ⟨1, key true (decide_eq_true h')⟩
  · exact ⟨0, key false (decide_eq_false h')⟩

/-- A finished tile on its way to the result. -/
def OF (sc : F .f32) (c : Dev nD) (t : Fin 4) : sProp 𝕄 :=
  Transfers.Flight EC (c : Thread nD τ) (.dma oS) 0 (HY.slice (tileR t) (fun _ => rfl)).view.dmaCredit
    iprop(hold (c : Thread nD τ) (HY.access (tileR t)) (outT m sc c t) ∗ hold (c : Thread nD τ) A8.view (outT m sc c t))

theorem halves_any (c : Dev nD) :
    (holdAny (c : Thread nD τ) A8.view : sProp 𝕄) ⊢ iprop(holdAny (c : Thread nD τ) (A8.access (halfR false)) ∗ holdAny (c : Thread nD τ) (A8.access (halfR true))) := by
  iintro H
  ihave H := (any_split (c : Thread nD τ) A8.view halves halves_disj halves_cover) $$ H
  ihave H := (Entails.of_eq (bigSep_univ_two (fun i => (holdAny (c : Thread nD τ) (A8.view.slice (halves i)) : sProp 𝕄)))) $$ H
  iexact H

theorem halves_out (sc : F .f32) (c : Dev nD) (t : Fin 4) (f₀ : Buf (Elt F) (A8.view.loc (c : Thread nD τ))) :
    iprop(hold (c : Thread nD τ) (A8.access (halfR false)) (outH m sc c t false) ∗ hold (c : Thread nD τ) (A8.access (halfR true)) (outH m sc c t true))
      ⊢ (hold (c : Thread nD τ) A8.view (outT m sc c t) : sProp 𝕄) := by
  rw [← outT_emb, ← outT_emb]
  iintro H
  iapply (hold_join (c : Thread nD τ) A8.view f₀ halves halves_disj halves_cover (outT m sc c t))
  iapply (Entails.of_eq (bigSep_univ_two (fun i => (hold (c : Thread nD τ) (A8.view.slice (halves i)) (fun x => outT m sc c t ((halves i).emb x)) : sProp 𝕄))).symm)
  iexact H

/-- A finished tile written and sent to the result. -/
theorem mac_out (sc : F .f32) (c : Dev nD) (t : Fin 4) (f₀ : Buf (Elt F) (A8.view.loc (c : Thread nD τ)))
    {o1 o2 o3 o4 o5 : Fin 2 → ℕ} (ho1 : o1 = ![0, 1024 * false.toNat]) (ho2 : o2 = ![0, 1024 * false.toNat])
    (ho3 : o3 = ![0, 1024 * true.toNat]) (ho4 : o4 = ![0, 1024 * true.toNat]) (ho5 : o5 = ![0, 2048 * t.val])
    {i1 : ∀ a, o1 a + S1024x1024.size a ≤ S1024x2048.size a} {i2 : ∀ a, o2 a + S1024x1024.size a ≤ S1024x2048.size a}
    {i3 : ∀ a, o3 a + S1024x1024.size a ≤ S1024x2048.size a} {i4 : ∀ a, o4 a + S1024x1024.size a ≤ S1024x2048.size a}
    {i5 : ∀ a, o5 a + S1024x2048.size a ≤ S1024x8192.size a} {l1 l2 x1 x2 y1 y2 hu}
    {v1 v2 : Vec F S1024x1024 .f32} (hv1 : v1 = outH m sc c t false) (hv2 : v2 = outH m sc c t true)
    {hs : A8.view.WordExact} {hd : (HY.slice (Rect.unit (s := S1024x8192) o5 S1024x2048.size i5) hu).view.WordExact} {hsem}
    {k : PUnit → Prog (TpuEff nD τ sig (Elt F) Λ₀ .tc) α} :
    iprop(holdAny (c : Thread nD τ) A8.view ∗ holdAny (c : Thread nD τ) (HY.access (tileR t)) ∗ semVal ((c : Thread nD τ), .dma oS) 0)
      ⊢ iprop((OF m sc c t -∗ wp frame (wpE (defs₀ (F := F)) 𝒱₀ (c : Thread nD τ) none) Set.univ (k ⟨⟩) Q)
          -∗ wp frame (wpE (defs₀ (F := F)) 𝒱₀ (c : Thread nD τ) none) Set.univ
            (.op (.load A8 (Rect.unit (s := S1024x2048) o1 S1024x1024.size i1).toLoadRect l1) fun _ =>
              .op (.store A8 (Rect.unit (s := S1024x2048) o2 S1024x1024.size i2) v1 Finset.univ x1 y1) fun _ =>
              .op (.load A8 (Rect.unit (s := S1024x2048) o3 S1024x1024.size i3).toLoadRect l2) fun _ =>
              .op (.store A8 (Rect.unit (s := S1024x2048) o4 S1024x1024.size i4) v2 Finset.univ x2 y2) fun _ =>
              .op (.enqueueDma A8 (.here (HY.slice (Rect.unit (s := S1024x8192) o5 S1024x2048.size i5) hu)) (.dma oS) hs hd hsem) k) Q) := by
  subst ho1 ho2 ho3 ho4 ho5 hv1 hv2
  iintro ⟨HA, HY, Hv⟩ Hk
  ihave HA := (halves_any c) $$ HA
  icases HA with ⟨H1, H2⟩
  iapply (wp_any_load (defs := defs₀ (F := F)) 𝒱₀ (c : Thread nD τ) none (m := A8) (r := halfR false)) $$ H1
  iintro %_ H1
  iapply (wp_hold_store (defs := defs₀ (F := F)) 𝒱₀ (c : Thread nD τ) none (m := A8) (r := halfR false)) $$ H1
  iintro H1
  iapply (wp_any_load (defs := defs₀ (F := F)) 𝒱₀ (c : Thread nD τ) none (m := A8) (r := halfR true)) $$ H2
  iintro %_ H2
  iapply (wp_hold_store (defs := defs₀ (F := F)) 𝒱₀ (c : Thread nD τ) none (m := A8) (r := halfR true)) $$ H2
  iintro H2
  ihave H := (halves_out m sc c t f₀) $$ [H1 H2]
  · isplitl [H1] <;> iassumption
  unfold OF
  iapply (wp_hold_dma (defs := defs₀ (F := F)) 𝒱₀ (c : Thread nD τ) none EC 0 (HY.slice (tileR t) (fun _ => rfl)).view.dmaCredit rfl (View.dmaCredit_pos _ (show 0 < S1024x2048.numel by decide))) $$ [H HY Hv]
  · isplitl [H]; · iexact H
    isplitl [HY] <;> iassumption
  iintro HF
  iapply Hk $$ HF

/-- A finished tile waited for. -/
theorem mac_owait (sc : F .f32) (c : Dev nD) (t : Fin 4) (n : ℕ)
    {o5 : Fin 2 → ℕ} (ho5 : o5 = ![0, 2048 * t.val]) {i5 : ∀ a, o5 a + S1024x2048.size a ≤ S1024x8192.size a} {hu}
    {hs : A8.view.WordExact} {hd : (HY.slice (Rect.unit (s := S1024x8192) o5 S1024x2048.size i5) hu).view.WordExact}
    {k : PUnit → Prog (TpuEff nD τ sig (Elt F) Λ₀ .tc) α} :
    iprop(Recs m κ ζ ∗ Ow c n ∗ OF m sc c t)
      ⊢ iprop((Ow c n ∗ holdAny (c : Thread nD τ) A8.view ∗ semVal ((c : Thread nD τ), .dma oS) 0 ∗ hold (c : Thread nD τ) (HY.access (tileR t)) (outT m sc c t)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 oS A8 (HY.slice (Rect.unit (s := S1024x8192) o5 S1024x2048.size i5) hu) hs hd) k) Q) := by
  subst ho5
  iintro ⟨#HR, HO, HF⟩ Hk
  unfold OF
  iapply (step_lwait m κ ζ c n kind_o rfl) $$ [HO HF]
  · isplitr; · iexact HR
    isplitl [HO] <;> iassumption
  iintro ⟨HO, ⟨HY, H8⟩, Hv⟩
  iapply Hk
  isplitl [HO]; · iexact HO
  isplitl [H8]; · iapply (hold_any (c : Thread nD τ) A8.view (outT m sc c t)) $$ H8
  isplitl [Hv] <;> iassumption

end Cert.KernelIdeal.Ring

end
-- ==== Proof.IBody.lean ====
/-
The body of the kernel on one device, executed effect by effect.
-/
module

public import proofs.«01_k».proof.Proof.IOut

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)
variable (κ : Dev nD × CK → ℕ) (ζ : KeyT → ℕ)

variable {α : Type} {Q : α → sProp (MT nD τ sig ℕ (Elt F) ℕ UU ℕ)}

theorem dev_eq {v : ℕ} (h : v < nD) {d : Dev nD} (e : v = d.val) : (⟨v, h⟩ : Dev nD) = d := Fin.ext e

theorem own0 (c : Dev nD) : (![1024 * c.val, 0] : Fin 2 → ℕ) = ![1024 * ((c.val + 0) % 4), 0] := by
  rw [Nat.add_zero, Nat.mod_eq_of_lt c.isLt]

/-- The one word of a scale. -/
abbrev rS : Rect S1 := Rect.unit (s := S1) ![0] S1.size inb_S1_S1_0

/-- What the stages of the ring start from on device `c`: every message to be sent and received, every slot free, the
    blocks of the arguments in the large memory, the other buffers at any contents. -/
def ringPre (c : Dev nD) : sProp 𝕄 :=
  iprop((Ow c 2 ∗ Snd2 c 0 ∗ Crd2 c 0 ∗ SF2 c 0 0 ∗ SF2 c 1 0 ∗ Rcv2 c 0 ∗ Giv2 c 0)
    ∗ (XH m c 0 ∗ XH m c 1 ∗ XH m c 2 ∗ XH m c 3) ∗ (WH m c 0 ∗ WH m c 1 ∗ WH m c 2 ∗ WH m c 3)
    ∗ (holdAny (c : Thread nD τ) (A5.access (chunkR c 0)) ∗ holdAny (c : Thread nD τ) (A5.access (chunkR c 1))
      ∗ holdAny (c : Thread nD τ) (A5.access (chunkR c 2)) ∗ holdAny (c : Thread nD τ) (A5.access (chunkR c 3)))
    ∗ (holdAny (c : Thread nD τ) (A7.access (tileR 0)) ∗ holdAny (c : Thread nD τ) (A7.access (tileR 1))
      ∗ holdAny (c : Thread nD τ) (A7.access (tileR 2)) ∗ holdAny (c : Thread nD τ) (A7.access (tileR 3)))
    ∗ (holdAny (c : Thread nD τ) (HY.access (tileR 0)) ∗ holdAny (c : Thread nD τ) (HY.access (tileR 1))
      ∗ holdAny (c : Thread nD τ) (HY.access (tileR 2)) ∗ holdAny (c : Thread nD τ) (HY.access (tileR 3)))
    ∗ X0 c ∗ X8s m c ∅ ∗ W8s m c ∅ ∗ holdAny (c : Thread nD τ) A8.view ∗ semVal ((c : Thread nD τ), .dma wS) 0 ∗ semVal ((c : Thread nD τ), .dma oS) 0)

/-- What they end with: every message sent and received, and the result's tiles finished. -/
def ringPost (sc : F .f32) (c : Dev nD) : sProp 𝕄 :=
  iprop((Ow c 42 ∗ Snd2 c 12 ∗ Crd2 c 8 ∗ SF2 c 0 6 ∗ SF2 c 1 6 ∗ Rcv2 c 12 ∗ Giv2 c 8)
    ∗ (XH m c 0 ∗ XH m c 1 ∗ XH m c 2 ∗ XH m c 3) ∗ (WH m c 0 ∗ WH m c 1 ∗ WH m c 2 ∗ WH m c 3)
    ∗ (hold (c : Thread nD τ) (HY.access (tileR 0)) (outT m sc c 0) ∗ hold (c : Thread nD τ) (HY.access (tileR 1)) (outT m sc c 1)
      ∗ hold (c : Thread nD τ) (HY.access (tileR 2)) (outT m sc c 2) ∗ hold (c : Thread nD τ) (HY.access (tileR 3)) (outT m sc c 3))
    ∗ X0 c ∗ X8s m c (insert 0 (insert 2 (insert 1 (insert 3 ∅)))) ∗ W8s m c (insert 3 (insert 2 (insert 1 (insert 0 ∅)))) ∗ holdAny (c : Thread nD τ) A8.view
    ∗ semVal ((c : Thread nD τ), .dma wS) 0 ∗ semVal ((c : Thread nD τ), .dma oS) 0
    ∗ Got2 m c 8 ∗ Got2 m c 9 ∗ Got2 m c 10 ∗ Got2 m c 11)

set_option maxHeartbeats 2000000 in
set_option maxRecDepth 20000 in
/-- The body on device `c`, entry signals first. -/
theorem sound_body (sx sw : Elt F .f32) (c : Dev nD) (f₀ : Buf (Elt F) (A8.view.loc (c : Thread nD τ)))
    (fx : Buf (Elt F) ((Memref.whole cc0_stg0_0 : Memref sig .tc .smem S1 .f32).view.loc (c : Thread nD τ))) (fw : Buf (Elt F) ((Memref.whole cc0_stg1_0 : Memref sig .tc .smem S1 .f32).view.loc (c : Thread nD τ)))
    (hfx : ∀ x, ((Memref.whole cc0_stg0_0 : Memref sig .tc .smem S1 .f32).access rS).read (Elt F) fx x = sx)
    (hfw : ∀ x, ((Memref.whole cc0_stg1_0 : Memref sig .tc .smem S1 .f32).access rS).read (Elt F) fw x = sw) (Kt : PUnit → sProp 𝕄) :
    iprop((Recs m κ ζ ∗ Ow c 0
        ∗ (dutyTok ER (kc (src false c) .bar) 0 false.toNat ∗ dutyTok ER (kc (src true c) .bar) 0 true.toNat
          ∗ reached ER (kc (src false c) .bar) 0 ∗ reached ER (kc (src true c) .bar) 0
          ∗ atPos ER (kc c .bar) 0 ∅ 0 ∗ cred (tallyAt (kc c .bar) 0 2) ∗ Upto (src false c) false 0 ∗ Upto (src true c) true 0)
        ∗ ((Memref.whole cc0_stg0_0 : Memref sig .tc .smem S1 .f32).view.loc (c : Thread nD τ) ↦{fullShare} fx)
        ∗ ((Memref.whole cc0_stg1_0 : Memref sig .tc .smem S1 .f32).view.loc (c : Thread nD τ) ↦{fullShare} fw)
        ∗ (Ow c 2 ∗ Upto c false 0 ∗ Upto c true 0 -∗ ringPre m c))
      ∗ (atPos ER (kc c .bar) 1 ∅ 0
        ∗ ((Memref.whole cc0_stg0_0 : Memref sig .tc .smem S1 .f32).view.loc (c : Thread nD τ) ↦{fullShare} fx)
        ∗ ((Memref.whole cc0_stg1_0 : Memref sig .tc .smem S1 .f32).view.loc (c : Thread nD τ) ↦{fullShare} fw)
        ∗ ringPost m (k0_pay1 sx sw) c -∗ |={Set.univ}=> Kt ⟨⟩))
      ⊢ wp frame (wpE (defs₀ (F := F)) 𝒱₀ (c : Thread nD τ) none) Set.univ
          (cc0_body (Memref.whole main_arg0) (Memref.isWhole_whole _) (Memref.whole main_arg1) (Memref.isWhole_whole _)
            (Memref.whole cc0_stg0_0) (Memref.isWhole_whole _) (Memref.whole cc0_stg1_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) cc0_scratch8 cc0_scratch9 cc0_scratch10 cc0_scratch11
            cc0_scratch12 cc0_scratch13 cc0_scratch14 cc0_scratch15 cc0_scratch16) Kt := by
  simp only [cc0_body_eq_skeleton]; unfold cc0_body_skel
  simp only [k0_part1_eq_skeleton, k0_part1_skel, k0_part2_eq_skeleton, k0_part2_skel, smemLoad, smemLoadElt, semSignalWord, semWaitWord, Prog.lift, Prog.bind_op, Prog.bind_ret, Prog.pure_eq_ret, wp_deviceId]
  iintro ⟨⟨#HR, HO, ⟨Hd1, Hd2, #Hb1, #Hb2, Hat, Hcr, #HU1, #HU2⟩, Hsx, Hsw, HP⟩, Hk⟩
  iapply (wp_load_rect 𝒱₀ (c : Thread nD τ) none Set.univ (m := (Memref.whole cc0_stg0_0 : Memref sig .tc .smem S1 .f32)) (r := rS) (Finset.subset_univ _)) $$ Hsx
  iintro Hsx
  rw [hfx]
  iapply (wp_load_rect 𝒱₀ (c : Thread nD τ) none Set.univ (m := (Memref.whole cc0_stg1_0 : Memref sig .tc .smem S1 .f32)) (r := rS) (Finset.subset_univ _)) $$ Hsw
  iintro Hsw
  rw [hfw]
  iapply (step_sig_bar m κ ζ c false (n := 0) rfl (dev_eq (k0_dev1_lt c) (k0_dev1_eq c)) rfl) $$ [HO Hd1]
  · isplitr; · iexact HR
    isplitl [HO]; · iexact HO
    isplitl [Hd1]; · iexact Hd1
    isplitr; · iexact Hb1
    iexact HU1
  iintro HO
  iapply (step_sig_bar m κ ζ c true (n := 1) rfl (dev_eq (k0_dev2_lt c) (k0_dev2_eq c)) rfl) $$ [HO Hd2]
  · isplitr; · iexact HR
    isplitl [HO]; · iexact HO
    isplitl [Hd2]; · iexact Hd2
    isplitr; · iexact Hb2
    iexact HU2
  iintro HO
  iapply (step_wait_bar m κ ζ c rfl) $$ [HO Hat Hcr]
  · isplitr; · iexact HR
    isplitl [HO]; · iexact HO
    isplitl [Hat] <;> iassumption
  iintro ⟨HO, Hat, #HV1, #HV2⟩
  ihave HP := HP $$ [HO]
  · isplitl [HO]; · iexact HO
    isplitr; · iexact HV1
    iexact HV2
  unfold ringPre
  icases HP with ⟨⟨HO, HS, HC, HF0, HF1, HR', HV⟩, ⟨HX0, HX1, HX2, HX3⟩, ⟨HW0, HW1, HW2, HW3⟩, ⟨HA0, HA1, HA2, HA3⟩, ⟨HB0, HB1, HB2, HB3⟩, ⟨HY0, HY1, HY2, HY3⟩, HX, H5, H7, H8, HvW, HvO⟩
  iapply (mac_xenq m c 3 (k0_off1_eq c 2)) $$ [HX3 HX]
  · isplitl [HX3] <;> iassumption
  iintro HX
  iapply (mac_wenq m c 0 rfl) $$ [HW0 H8 HvW]
  · isplitl [HW0]; · iexact HW0
    isplitl [H8] <;> iassumption
  iintro HW
  iapply (mac_xstage m κ ζ c 2 3 (∅ : Finset ℕ) (by decide) (k0_off2_eq c 2) (fun _ => rfl)) $$ [HO HX H5 HA3]
  · isplitr; · iexact HR
    isplitl [HO]; · iexact HO
    isplitl [HX]; · iexact HX
    isplitl [H5] <;> iassumption
  iintro ⟨HO, HX, HX3, H5⟩
  iapply (mac_xenq m c 1 (k0_off1_eq c 0)) $$ [HX1 HX]
  · isplitl [HX1] <;> iassumption
  iintro HX
  iapply (mac_xstage m κ ζ c 2 1 ((insert 3 ∅) : Finset ℕ) (by decide) (k0_off2_eq c 0) (fun _ => rfl)) $$ [HO HX H5 HA1]
  · isplitr; · iexact HR
    isplitl [HO]; · iexact HO
    isplitl [HX]; · iexact HX
    isplitl [H5] <;> iassumption
  iintro ⟨HO, HX, HX1, H5⟩
  iapply (mac_xenq m c 2 (k0_off1_eq c 1)) $$ [HX2 HX]
  · isplitl [HX2] <;> iassumption
  iintro HX
  iapply (mac_wstage m κ ζ c 2 0 (∅ : Finset (Fin 4)) (by decide) rfl (fun _ => rfl)) $$ [HO HW H7 HB0]
  · isplitr; · iexact HR
    isplitl [HO]; · iexact HO
    isplitl [HW]; · iexact HW
    isplitl [H7] <;> iassumption
  iintro ⟨HO, H8, HvW, HW0, H7⟩
  iapply (mac_wenq m c 1 rfl) $$ [HW1 H8 HvW]
  · isplitl [HW1]; · iexact HW1
    isplitl [H8] <;> iassumption
  iintro HW
  simp only [k0_part3_eq_skeleton, k0_part3_skel, k0_part4_eq_skeleton, k0_part4_skel, k0_part5_eq_skeleton, k0_part5_skel, k0_part6_eq_skeleton, k0_part6_skel, smemLoad, smemLoadElt, semSignalWord, semWaitWord, Prog.lift, Prog.bind_op, Prog.bind_ret, Prog.pure_eq_ret, wp_deviceId]
  iapply (mac_dots m c 3 1 0 (S := ((insert 1 (insert 3 ∅)) : Finset ℕ)) (S' := ((insert 0 ∅) : Finset (Fin 4))) (by decide) (by decide) (by decide) (k0_off2_eq c 2) rfl (k0_off3_eq c 0) rfl) $$ [H5 H7]
  · isplitl [H5] <;> iassumption
  iintro ⟨H5, H7⟩
  iapply (mac_push m κ ζ c 0 2 (r := 0) (R := 0) (j := 0) rfl rfl rfl (by decide) rfl rfl rfl rfl rfl rfl rfl rfl rfl rfl rfl rfl rfl rfl rfl rfl (dev_eq (k0_dev3_lt c) (k0_dev3_eq c)) (dev_eq (k0_dev4_lt c) (k0_dev4_eq c))) $$ [HO HS HC HF0]
  · isplitr; · iexact HR
    isplitl [HO]; · iexact HO
    isplitl [HS]; · iexact HS
    isplitl [HC] <;> iassumption
  iintro ⟨HO, HS, HC, HF0⟩
  iapply (mac_xstage m κ ζ c 4 2 ((insert 1 (insert 3 ∅)) : Finset ℕ) (by decide) (k0_off2_eq c 1) (fun _ => rfl)) $$ [HO HX H5 HA2]
  · isplitr; · iexact HR
    isplitl [HO]; · iexact HO
    isplitl [HX]; · iexact HX
    isplitl [H5] <;> iassumption
  iintro ⟨HO, HX, HX2, H5⟩
  iapply (mac_xenq m c 0 ((k0_off4_eq c).trans (own0 c))) $$ [HX0 HX]
  · isplitl [HX0] <;> iassumption
  iintro HX
  iapply (mac_wstage m κ ζ c 4 1 ((insert 0 ∅) : Finset (Fin 4)) (by decide) rfl (fun _ => rfl)) $$ [HO HW H7 HB1]
  · isplitr; · iexact HR
    isplitl [HO]; · iexact HO
    isplitl [HW]; · iexact HW
    isplitl [H7] <;> iassumption
  iintro ⟨HO, H8, HvW, HW1, H7⟩
  iapply (mac_wenq m c 2 rfl) $$ [HW2 H8 HvW]
  · isplitl [HW2]; · iexact HW2
    isplitl [H8] <;> iassumption
  iintro HW
  iapply (mac_dots m c 3 1 1 (S := ((insert 2 (insert 1 (insert 3 ∅))) : Finset ℕ)) (S' := ((insert 1 (insert 0 ∅)) : Finset (Fin 4))) (by decide) (by decide) (by decide) (k0_off2_eq c 2) rfl (k0_off3_eq c 0) rfl) $$ [H5 H7]
  · isplitl [H5] <;> iassumption
  iintro ⟨H5, H7⟩
  iapply (mac_push m κ ζ c 1 4 (r := 1) (R := 0) (j := 0) rfl rfl rfl (by decide) rfl rfl rfl rfl rfl rfl rfl rfl rfl rfl rfl rfl rfl rfl rfl rfl (dev_eq (k0_dev5_lt c) (k0_dev5_eq c)) (dev_eq (k0_dev6_lt c) (k0_dev6_eq c))) $$ [HO HS HC HF1]
  · isplitr; · iexact HR
    isplitl [HO]; · iexact HO
    isplitl [HS]; · iexact HS
    isplitl [HC] <;> iassumption
  iintro ⟨HO, HS, HC, HF1⟩
  iapply (mac_xstage m κ ζ c 6 0 ((insert 2 (insert 1 (insert 3 ∅))) : Finset ℕ) (by decide) ((k0_off5_eq c).trans (own0 c)) (fun _ => rfl)) $$ [HO HX H5 HA0]
  · isplitr; · iexact HR
    isplitl [HO]; · iexact HO
    isplitl [HX]; · iexact HX
    isplitl [H5] <;> iassumption
  iintro ⟨HO, HX, HX0, H5⟩
  simp only [k0_part7_eq_skeleton, k0_part7_skel, k0_part8_eq_skeleton, k0_part8_skel, k0_part9_eq_skeleton, k0_part9_skel, k0_part10_eq_skeleton, k0_part10_skel, k0_part11_eq_skeleton, k0_part11_skel, smemLoad, smemLoadElt, semSignalWord, semWaitWord, Prog.lift, Prog.bind_op, Prog.bind_ret, Prog.pure_eq_ret, wp_deviceId]
  iapply (mac_dots m c 2 2 0 (S := ((insert 0 (insert 2 (insert 1 (insert 3 ∅)))) : Finset ℕ)) (S' := ((insert 1 (insert 0 ∅)) : Finset (Fin 4))) (by decide) (by decide) (by decide) (k0_off2_eq c 1) rfl (k0_off3_eq c 1) rfl) $$ [H5 H7]
  · isplitl [H5] <;> iassumption
  iintro ⟨H5, H7⟩
  iapply (mac_recv m κ ζ c 0 6 (by decide) (by decide) rfl rfl rfl rfl rfl rfl) $$ [HO HR']
  · isplitr; · iexact HR
    isplitl [HO] <;> iassumption
  iintro ⟨HO, HR', HG⟩
  iapply (mac_give m κ ζ c 0 6 (by decide) rfl rfl (dev_eq (k0_dev7_lt c) (k0_dev7_eq c)) (dev_eq (k0_dev8_lt c) (k0_dev8_eq c)) rfl rfl) $$ [HO HV HG]
  · isplitr; · iexact HR
    isplitl [HO]; · iexact HO
    isplitl [HV] <;> iassumption
  iintro ⟨HO, HV⟩
  iapply (mac_swait m κ ζ c 0 0 8 (by decide) rfl rfl rfl rfl) $$ [HO HF0]
  · isplitr; · iexact HR
    isplitl [HO] <;> iassumption
  iintro ⟨HO, HF0⟩
  iapply (mac_push m κ ζ c 2 8 (r := 0) (R := 1) (j := 0) rfl rfl rfl (by decide) rfl rfl rfl rfl rfl rfl rfl rfl rfl rfl rfl rfl rfl rfl rfl rfl (dev_eq (k0_dev9_lt c) (k0_dev9_eq c)) (dev_eq (k0_dev10_lt c) (k0_dev10_eq c))) $$ [HO HS HC HF0]
  · isplitr; · iexact HR
    isplitl [HO]; · iexact HO
    isplitl [HS]; · iexact HS
    isplitl [HC] <;> iassumption
  iintro ⟨HO, HS, HC, HF0⟩
  simp only [k0_part12_eq_skeleton, k0_part12_skel, k0_part13_eq_skeleton, k0_part13_skel, k0_part14_eq_skeleton, k0_part14_skel, smemLoad, smemLoadElt, semSignalWord, semWaitWord, Prog.lift, Prog.bind_op, Prog.bind_ret, Prog.pure_eq_ret, wp_deviceId]
  iapply (mac_dots m c 2 2 1 (S := ((insert 0 (insert 2 (insert 1 (insert 3 ∅)))) : Finset ℕ)) (S' := ((insert 1 (insert 0 ∅)) : Finset (Fin 4))) (by decide) (by decide) (by decide) (k0_off2_eq c 1) rfl (k0_off3_eq c 1) rfl) $$ [H5 H7]
  · isplitl [H5] <;> iassumption
  iintro ⟨H5, H7⟩
  iapply (mac_recv m κ ζ c 1 10 (by decide) (by decide) rfl rfl rfl rfl rfl rfl) $$ [HO HR']
  · isplitr; · iexact HR
    isplitl [HO] <;> iassumption
  iintro ⟨HO, HR', HG⟩
  iapply (mac_give m κ ζ c 1 10 (by decide) rfl rfl (dev_eq (k0_dev11_lt c) (k0_dev11_eq c)) (dev_eq (k0_dev12_lt c) (k0_dev12_eq c)) rfl rfl) $$ [HO HV HG]
  · isplitr; · iexact HR
    isplitl [HO]; · iexact HO
    isplitl [HV] <;> iassumption
  iintro ⟨HO, HV⟩
  iapply (mac_swait m κ ζ c 1 0 12 (by decide) rfl rfl rfl rfl) $$ [HO HF1]
  · isplitr; · iexact HR
    isplitl [HO] <;> iassumption
  iintro ⟨HO, HF1⟩
  iapply (mac_push m κ ζ c 3 12 (r := 1) (R := 1) (j := 0) rfl rfl rfl (by decide) rfl rfl rfl rfl rfl rfl rfl rfl rfl rfl rfl rfl rfl rfl rfl rfl (dev_eq (k0_dev13_lt c) (k0_dev13_eq c)) (dev_eq (k0_dev14_lt c) (k0_dev14_eq c))) $$ [HO HS HC HF1]
  · isplitr; · iexact HR
    isplitl [HO]; · iexact HO
    isplitl [HS]; · iexact HS
    isplitl [HC] <;> iassumption
  iintro ⟨HO, HS, HC, HF1⟩
  simp only [k0_part15_eq_skeleton, k0_part15_skel, k0_part16_eq_skeleton, k0_part16_skel, k0_part17_eq_skeleton, k0_part17_skel, k0_part18_eq_skeleton, k0_part18_skel, smemLoad, smemLoadElt, semSignalWord, semWaitWord, Prog.lift, Prog.bind_op, Prog.bind_ret, Prog.pure_eq_ret, wp_deviceId]
  iapply (mac_dots m c 1 3 0 (S := ((insert 0 (insert 2 (insert 1 (insert 3 ∅)))) : Finset ℕ)) (S' := ((insert 1 (insert 0 ∅)) : Finset (Fin 4))) (by decide) (by decide) (by decide) (k0_off2_eq c 0) rfl (k0_off3_eq c 2) rfl) $$ [H5 H7]
  · isplitl [H5] <;> iassumption
  iintro ⟨H5, H7⟩
  iapply (mac_recv m κ ζ c 2 14 (by decide) (by decide) rfl rfl rfl rfl rfl rfl) $$ [HO HR']
  · isplitr; · iexact HR
    isplitl [HO] <;> iassumption
  iintro ⟨HO, HR', HG⟩
  iapply (mac_give m κ ζ c 2 14 (by decide) rfl rfl (dev_eq (k0_dev15_lt c) (k0_dev15_eq c)) (dev_eq (k0_dev16_lt c) (k0_dev16_eq c)) rfl rfl) $$ [HO HV HG]
  · isplitr; · iexact HR
    isplitl [HO]; · iexact HO
    isplitl [HV] <;> iassumption
  iintro ⟨HO, HV⟩
  iapply (mac_cwait m κ ζ c 0 16 (by decide) (by decide) rfl rfl) $$ [HO HC]
  · isplitr; · iexact HR
    isplitl [HO] <;> iassumption
  iintro ⟨HO, HC⟩
  iapply (mac_swait m κ ζ c 0 1 16 (by decide) rfl rfl rfl rfl) $$ [HO HF0]
  · isplitr; · iexact HR
    isplitl [HO] <;> iassumption
  iintro ⟨HO, HF0⟩
  iapply (mac_push m κ ζ c 4 16 (r := 0) (R := 2) (j := 1) rfl rfl rfl (by decide) rfl rfl rfl rfl rfl rfl rfl rfl rfl rfl rfl rfl rfl rfl rfl rfl (dev_eq (k0_dev17_lt c) (k0_dev17_eq c)) (dev_eq (k0_dev18_lt c) (k0_dev18_eq c))) $$ [HO HS HC HF0]
  · isplitr; · iexact HR
    isplitl [HO]; · iexact HO
    isplitl [HS]; · iexact HS
    isplitl [HC] <;> iassumption
  iintro ⟨HO, HS, HC, HF0⟩
  simp only [k0_part19_eq_skeleton, k0_part19_skel, k0_part20_eq_skeleton, k0_part20_skel, smemLoad, smemLoadElt, semSignalWord, semWaitWord, Prog.lift, Prog.bind_op, Prog.bind_ret, Prog.pure_eq_ret, wp_deviceId]
  iapply (mac_dots m c 1 3 1 (S := ((insert 0 (insert 2 (insert 1 (insert 3 ∅)))) : Finset ℕ)) (S' := ((insert 1 (insert 0 ∅)) : Finset (Fin 4))) (by decide) (by decide) (by decide) (k0_off2_eq c 0) rfl (k0_off3_eq c 2) rfl) $$ [H5 H7]
  · isplitl [H5] <;> iassumption
  iintro ⟨H5, H7⟩
  iapply (mac_recv m κ ζ c 3 18 (by decide) (by decide) rfl rfl rfl rfl rfl rfl) $$ [HO HR']
  · isplitr; · iexact HR
    isplitl [HO] <;> iassumption
  iintro ⟨HO, HR', HG⟩
  iapply (mac_give m κ ζ c 3 18 (by decide) rfl rfl (dev_eq (k0_dev19_lt c) (k0_dev19_eq c)) (dev_eq (k0_dev20_lt c) (k0_dev20_eq c)) rfl rfl) $$ [HO HV HG]
  · isplitr; · iexact HR
    isplitl [HO]; · iexact HO
    isplitl [HV] <;> iassumption
  iintro ⟨HO, HV⟩
  iapply (mac_cwait m κ ζ c 1 20 (by decide) (by decide) rfl rfl) $$ [HO HC]
  · isplitr; · iexact HR
    isplitl [HO] <;> iassumption
  iintro ⟨HO, HC⟩
  iapply (mac_swait m κ ζ c 1 1 20 (by decide) rfl rfl rfl rfl) $$ [HO HF1]
  · isplitr; · iexact HR
    isplitl [HO] <;> iassumption
  iintro ⟨HO, HF1⟩
  iapply (mac_push m κ ζ c 5 20 (r := 1) (R := 2) (j := 2) rfl rfl rfl (by decide) rfl rfl rfl rfl rfl rfl rfl rfl rfl rfl rfl rfl rfl rfl rfl rfl (dev_eq (k0_dev21_lt c) (k0_dev21_eq c)) (dev_eq (k0_dev22_lt c) (k0_dev22_eq c))) $$ [HO HS HC HF1]
  · isplitr; · iexact HR
    isplitl [HO]; · iexact HO
    isplitl [HS]; · iexact HS
    isplitl [HC] <;> iassumption
  iintro ⟨HO, HS, HC, HF1⟩
  simp only [k0_part21_eq_skeleton, k0_part21_skel, k0_part22_eq_skeleton, k0_part22_skel, k0_part23_eq_skeleton, k0_part23_skel, smemLoad, smemLoadElt, semSignalWord, semWaitWord, Prog.lift, Prog.bind_op, Prog.bind_ret, Prog.pure_eq_ret, wp_deviceId]
  iapply (mac_wstage m κ ζ c 22 2 ((insert 1 (insert 0 ∅)) : Finset (Fin 4)) (by decide) rfl (fun _ => rfl)) $$ [HO HW H7 HB2]
  · isplitr; · iexact HR
    isplitl [HO]; · iexact HO
    isplitl [HW]; · iexact HW
    isplitl [H7] <;> iassumption
  iintro ⟨HO, H8, HvW, HW2, H7⟩
  iapply (mac_wenq m c 3 rfl) $$ [HW3 H8 HvW]
  · isplitl [HW3]; · iexact HW3
    isplitl [H8] <;> iassumption
  iintro HW
  iapply (mac_dots m c 3 1 2 (S := ((insert 0 (insert 2 (insert 1 (insert 3 ∅)))) : Finset ℕ)) (S' := ((insert 2 (insert 1 (insert 0 ∅))) : Finset (Fin 4))) (by decide) (by decide) (by decide) (k0_off2_eq c 2) rfl (k0_off3_eq c 0) rfl) $$ [H5 H7]
  · isplitl [H5] <;> iassumption
  iintro ⟨H5, H7⟩
  iapply (mac_cwait m κ ζ c 2 22 (by decide) (by decide) rfl rfl) $$ [HO HC]
  · isplitr; · iexact HR
    isplitl [HO] <;> iassumption
  iintro ⟨HO, HC⟩
  iapply (mac_swait m κ ζ c 0 2 22 (by decide) rfl rfl rfl rfl) $$ [HO HF0]
  · isplitr; · iexact HR
    isplitl [HO] <;> iassumption
  iintro ⟨HO, HF0⟩
  iapply (mac_push m κ ζ c 6 22 (r := 0) (R := 3) (j := 3) rfl rfl rfl (by decide) rfl rfl rfl rfl rfl rfl rfl rfl rfl rfl rfl rfl rfl rfl rfl rfl (dev_eq (k0_dev23_lt c) (k0_dev23_eq c)) (dev_eq (k0_dev24_lt c) (k0_dev24_eq c))) $$ [HO HS HC HF0]
  · isplitr; · iexact HR
    isplitl [HO]; · iexact HO
    isplitl [HS]; · iexact HS
    isplitl [HC] <;> iassumption
  iintro ⟨HO, HS, HC, HF0⟩
  iapply (mac_wstage m κ ζ c 24 3 ((insert 2 (insert 1 (insert 0 ∅))) : Finset (Fin 4)) (by decide) rfl (fun _ => rfl)) $$ [HO HW H7 HB3]
  · isplitr; · iexact HR
    isplitl [HO]; · iexact HO
    isplitl [HW]; · iexact HW
    isplitl [H7] <;> iassumption
  iintro ⟨HO, H8, HvW, HW3, H7⟩
  iapply (mac_dots m c 3 1 3 (S := ((insert 0 (insert 2 (insert 1 (insert 3 ∅)))) : Finset ℕ)) (S' := ((insert 3 (insert 2 (insert 1 (insert 0 ∅)))) : Finset (Fin 4))) (by decide) (by decide) (by decide) (k0_off2_eq c 2) rfl (k0_off3_eq c 0) rfl) $$ [H5 H7]
  · isplitl [H5] <;> iassumption
  iintro ⟨H5, H7⟩
  iapply (mac_cwait m κ ζ c 3 24 (by decide) (by decide) rfl rfl) $$ [HO HC]
  · isplitr; · iexact HR
    isplitl [HO] <;> iassumption
  iintro ⟨HO, HC⟩
  iapply (mac_swait m κ ζ c 1 2 24 (by decide) rfl rfl rfl rfl) $$ [HO HF1]
  · isplitr; · iexact HR
    isplitl [HO] <;> iassumption
  iintro ⟨HO, HF1⟩
  iapply (mac_push m κ ζ c 7 24 (r := 1) (R := 3) (j := 4) rfl rfl rfl (by decide) rfl rfl rfl rfl rfl rfl rfl rfl rfl rfl rfl rfl rfl rfl rfl rfl (dev_eq (k0_dev25_lt c) (k0_dev25_eq c)) (dev_eq (k0_dev26_lt c) (k0_dev26_eq c))) $$ [HO HS HC HF1]
  · isplitr; · iexact HR
    isplitl [HO]; · iexact HO
    isplitl [HS]; · iexact HS
    isplitl [HC] <;> iassumption
  iintro ⟨HO, HS, HC, HF1⟩
  simp only [k0_part24_eq_skeleton, k0_part24_skel, k0_part25_eq_skeleton, k0_part25_skel, k0_part26_eq_skeleton, k0_part26_skel, k0_part27_eq_skeleton, k0_part27_skel, smemLoad, smemLoadElt, semSignalWord, semWaitWord, Prog.lift, Prog.bind_op, Prog.bind_ret, Prog.pure_eq_ret, wp_deviceId]
  iapply (mac_own m c 0 (S := ((insert 0 (insert 2 (insert 1 (insert 3 ∅)))) : Finset ℕ)) (S' := ((insert 3 (insert 2 (insert 1 (insert 0 ∅)))) : Finset (Fin 4))) (by decide) (by decide) ((k0_off5_eq c).trans (own0 c)) rfl) $$ [H5 H7]
  · isplitl [H5] <;> iassumption
  iintro ⟨H5, H7⟩
  iapply (mac_recv m κ ζ c 4 26 (by decide) (by decide) rfl rfl rfl rfl rfl rfl) $$ [HO HR']
  · isplitr; · iexact HR
    isplitl [HO] <;> iassumption
  iintro ⟨HO, HR', HG⟩
  iapply (mac_give m κ ζ c 4 26 (by decide) rfl rfl (dev_eq (k0_dev27_lt c) (k0_dev27_eq c)) (dev_eq (k0_dev28_lt c) (k0_dev28_eq c)) rfl rfl) $$ [HO HV HG]
  · isplitr; · iexact HR
    isplitl [HO]; · iexact HO
    isplitl [HV] <;> iassumption
  iintro ⟨HO, HV⟩
  iapply (mac_out m (k0_pay1 sx sw) c 0 f₀ rfl rfl rfl rfl rfl rfl rfl) $$ [H8 HY0 HvO]
  · isplitl [H8]; · iexact H8
    isplitl [HY0] <;> iassumption
  iintro HQ
  iapply (mac_own m c 1 (S := ((insert 0 (insert 2 (insert 1 (insert 3 ∅)))) : Finset ℕ)) (S' := ((insert 3 (insert 2 (insert 1 (insert 0 ∅)))) : Finset (Fin 4))) (by decide) (by decide) ((k0_off5_eq c).trans (own0 c)) rfl) $$ [H5 H7]
  · isplitl [H5] <;> iassumption
  iintro ⟨H5, H7⟩
  iapply (mac_recv m κ ζ c 5 28 (by decide) (by decide) rfl rfl rfl rfl rfl rfl) $$ [HO HR']
  · isplitr; · iexact HR
    isplitl [HO] <;> iassumption
  iintro ⟨HO, HR', HG⟩
  iapply (mac_give m κ ζ c 5 28 (by decide) rfl rfl (dev_eq (k0_dev29_lt c) (k0_dev29_eq c)) (dev_eq (k0_dev30_lt c) (k0_dev30_eq c)) rfl rfl) $$ [HO HV HG]
  · isplitr; · iexact HR
    isplitl [HO]; · iexact HO
    isplitl [HV] <;> iassumption
  iintro ⟨HO, HV⟩
  iapply (mac_owait m κ ζ (k0_pay1 sx sw) c 0 30 rfl) $$ [HO HQ]
  · isplitr; · iexact HR
    isplitl [HO] <;> iassumption
  iintro ⟨HO, H8, HvO, HY0⟩
  iapply (mac_out m (k0_pay1 sx sw) c 1 f₀ rfl rfl rfl rfl rfl rfl rfl) $$ [H8 HY1 HvO]
  · isplitl [H8]; · iexact H8
    isplitl [HY1] <;> iassumption
  iintro HQ
  simp only [k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, smemLoad, smemLoadElt, semSignalWord, semWaitWord, Prog.lift, Prog.bind_op, Prog.bind_ret, Prog.pure_eq_ret, wp_deviceId]
  iapply (mac_dots m c 2 2 2 (S := ((insert 0 (insert 2 (insert 1 (insert 3 ∅)))) : Finset ℕ)) (S' := ((insert 3 (insert 2 (insert 1 (insert 0 ∅)))) : Finset (Fin 4))) (by decide) (by decide) (by decide) (k0_off2_eq c 1) rfl (k0_off3_eq c 1) rfl) $$ [H5 H7]
  · isplitl [H5] <;> iassumption
  iintro ⟨H5, H7⟩
  iapply (mac_recv m κ ζ c 6 30 (by decide) (by decide) rfl rfl rfl rfl rfl rfl) $$ [HO HR']
  · isplitr; · iexact HR
    isplitl [HO] <;> iassumption
  iintro ⟨HO, HR', HG⟩
  iapply (mac_give m κ ζ c 6 30 (by decide) rfl rfl (dev_eq (k0_dev31_lt c) (k0_dev31_eq c)) (dev_eq (k0_dev32_lt c) (k0_dev32_eq c)) rfl rfl) $$ [HO HV HG]
  · isplitr; · iexact HR
    isplitl [HO]; · iexact HO
    isplitl [HV] <;> iassumption
  iintro ⟨HO, HV⟩
  iapply (mac_cwait m κ ζ c 4 32 (by decide) (by decide) rfl rfl) $$ [HO HC]
  · isplitr; · iexact HR
    isplitl [HO] <;> iassumption
  iintro ⟨HO, HC⟩
  iapply (mac_swait m κ ζ c 0 3 32 (by decide) rfl rfl rfl rfl) $$ [HO HF0]
  · isplitr; · iexact HR
    isplitl [HO] <;> iassumption
  iintro ⟨HO, HF0⟩
  iapply (mac_push m κ ζ c 8 32 (r := 0) (R := 4) (j := 5) rfl rfl rfl (by decide) rfl rfl rfl rfl rfl rfl rfl rfl rfl rfl rfl rfl rfl rfl rfl rfl (dev_eq (k0_dev33_lt c) (k0_dev33_eq c)) (dev_eq (k0_dev34_lt c) (k0_dev34_eq c))) $$ [HO HS HC HF0]
  · isplitr; · iexact HR
    isplitl [HO]; · iexact HO
    isplitl [HS]; · iexact HS
    isplitl [HC] <;> iassumption
  iintro ⟨HO, HS, HC, HF0⟩
  iapply (mac_dots m c 2 2 3 (S := ((insert 0 (insert 2 (insert 1 (insert 3 ∅)))) : Finset ℕ)) (S' := ((insert 3 (insert 2 (insert 1 (insert 0 ∅)))) : Finset (Fin 4))) (by decide) (by decide) (by decide) (k0_off2_eq c 1) rfl (k0_off3_eq c 1) rfl) $$ [H5 H7]
  · isplitl [H5] <;> iassumption
  iintro ⟨H5, H7⟩
  iapply (mac_recv m κ ζ c 7 34 (by decide) (by decide) rfl rfl rfl rfl rfl rfl) $$ [HO HR']
  · isplitr; · iexact HR
    isplitl [HO] <;> iassumption
  iintro ⟨HO, HR', HG⟩
  iapply (mac_give m κ ζ c 7 34 (by decide) rfl rfl (dev_eq (k0_dev35_lt c) (k0_dev35_eq c)) (dev_eq (k0_dev36_lt c) (k0_dev36_eq c)) rfl rfl) $$ [HO HV HG]
  · isplitr; · iexact HR
    isplitl [HO]; · iexact HO
    isplitl [HV] <;> iassumption
  iintro ⟨HO, HV⟩
  iapply (mac_cwait m κ ζ c 5 36 (by decide) (by decide) rfl rfl) $$ [HO HC]
  · isplitr; · iexact HR
    isplitl [HO] <;> iassumption
  iintro ⟨HO, HC⟩
  iapply (mac_swait m κ ζ c 1 3 36 (by decide) rfl rfl rfl rfl) $$ [HO HF1]
  · isplitr; · iexact HR
    isplitl [HO] <;> iassumption
  iintro ⟨HO, HF1⟩
  iapply (mac_push m κ ζ c 9 36 (r := 1) (R := 4) (j := 6) rfl rfl rfl (by decide) rfl rfl rfl rfl rfl rfl rfl rfl rfl rfl rfl rfl rfl rfl rfl rfl (dev_eq (k0_dev37_lt c) (k0_dev37_eq c)) (dev_eq (k0_dev38_lt c) (k0_dev38_eq c))) $$ [HO HS HC HF1]
  · isplitr; · iexact HR
    isplitl [HO]; · iexact HO
    isplitl [HS]; · iexact HS
    isplitl [HC] <;> iassumption
  iintro ⟨HO, HS, HC, HF1⟩
  simp only [k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, smemLoad, smemLoadElt, semSignalWord, semWaitWord, Prog.lift, Prog.bind_op, Prog.bind_ret, Prog.pure_eq_ret, wp_deviceId]
  iapply (mac_dots m c 1 3 2 (S := ((insert 0 (insert 2 (insert 1 (insert 3 ∅)))) : Finset ℕ)) (S' := ((insert 3 (insert 2 (insert 1 (insert 0 ∅)))) : Finset (Fin 4))) (by decide) (by decide) (by decide) (k0_off2_eq c 0) rfl (k0_off3_eq c 2) rfl) $$ [H5 H7]
  · isplitl [H5] <;> iassumption
  iintro ⟨H5, H7⟩
  iapply (mac_recv m κ ζ c 8 38 (by decide) (by decide) rfl rfl rfl rfl rfl rfl) $$ [HO HR']
  · isplitr; · iexact HR
    isplitl [HO] <;> iassumption
  iintro ⟨HO, HR', HG8⟩
  iapply (mac_cwait m κ ζ c 6 38 (by decide) (by decide) rfl rfl) $$ [HO HC]
  · isplitr; · iexact HR
    isplitl [HO] <;> iassumption
  iintro ⟨HO, HC⟩
  iapply (mac_swait m κ ζ c 0 4 38 (by decide) rfl rfl rfl rfl) $$ [HO HF0]
  · isplitr; · iexact HR
    isplitl [HO] <;> iassumption
  iintro ⟨HO, HF0⟩
  iapply (mac_push m κ ζ c 10 38 (r := 0) (R := 5) (j := 7) rfl rfl rfl (by decide) rfl rfl rfl rfl rfl rfl rfl rfl rfl rfl rfl rfl rfl rfl rfl rfl (dev_eq (k0_dev39_lt c) (k0_dev39_eq c)) (dev_eq (k0_dev40_lt c) (k0_dev40_eq c))) $$ [HO HS HC HF0]
  · isplitr; · iexact HR
    isplitl [HO]; · iexact HO
    isplitl [HS]; · iexact HS
    isplitl [HC] <;> iassumption
  iintro ⟨HO, HS, HC, HF0⟩
  iapply (mac_dots m c 1 3 3 (S := ((insert 0 (insert 2 (insert 1 (insert 3 ∅)))) : Finset ℕ)) (S' := ((insert 3 (insert 2 (insert 1 (insert 0 ∅)))) : Finset (Fin 4))) (by decide) (by decide) (by decide) (k0_off2_eq c 0) rfl (k0_off3_eq c 2) rfl) $$ [H5 H7]
  · isplitl [H5] <;> iassumption
  iintro ⟨H5, H7⟩
  iapply (mac_recv m κ ζ c 9 40 (by decide) (by decide) rfl rfl rfl rfl rfl rfl) $$ [HO HR']
  · isplitr; · iexact HR
    isplitl [HO] <;> iassumption
  iintro ⟨HO, HR', HG9⟩
  iapply (mac_cwait m κ ζ c 7 40 (by decide) (by decide) rfl rfl) $$ [HO HC]
  · isplitr; · iexact HR
    isplitl [HO] <;> iassumption
  iintro ⟨HO, HC⟩
  iapply (mac_swait m κ ζ c 1 4 40 (by decide) rfl rfl rfl rfl) $$ [HO HF1]
  · isplitr; · iexact HR
    isplitl [HO] <;> iassumption
  iintro ⟨HO, HF1⟩
  iapply (mac_push m κ ζ c 11 40 (r := 1) (R := 5) (j := 8) rfl rfl rfl (by decide) rfl rfl rfl rfl rfl rfl rfl rfl rfl rfl rfl rfl rfl rfl rfl rfl (dev_eq (k0_dev41_lt c) (k0_dev41_eq c)) (dev_eq (k0_dev42_lt c) (k0_dev42_eq c))) $$ [HO HS HC HF1]
  · isplitr; · iexact HR
    isplitl [HO]; · iexact HO
    isplitl [HS]; · iexact HS
    isplitl [HC] <;> iassumption
  iintro ⟨HO, HS, HC, HF1⟩
  simp only [k0_part40_eq_skeleton, k0_part40_skel, k0_part41_eq_skeleton, k0_part41_skel, k0_part42_eq_skeleton, k0_part42_skel, k0_part43_eq_skeleton, k0_part43_skel, smemLoad, smemLoadElt, semSignalWord, semWaitWord, Prog.lift, Prog.bind_op, Prog.bind_ret, Prog.pure_eq_ret, wp_deviceId]
  iapply (mac_own m c 2 (S := ((insert 0 (insert 2 (insert 1 (insert 3 ∅)))) : Finset ℕ)) (S' := ((insert 3 (insert 2 (insert 1 (insert 0 ∅)))) : Finset (Fin 4))) (by decide) (by decide) ((k0_off5_eq c).trans (own0 c)) rfl) $$ [H5 H7]
  · isplitl [H5] <;> iassumption
  iintro ⟨H5, H7⟩
  iapply (mac_recv m κ ζ c 10 42 (by decide) (by decide) rfl rfl rfl rfl rfl rfl) $$ [HO HR']
  · isplitr; · iexact HR
    isplitl [HO] <;> iassumption
  iintro ⟨HO, HR', HG10⟩
  iapply (mac_owait m κ ζ (k0_pay1 sx sw) c 1 42 rfl) $$ [HO HQ]
  · isplitr; · iexact HR
    isplitl [HO] <;> iassumption
  iintro ⟨HO, H8, HvO, HY1⟩
  iapply (mac_out m (k0_pay1 sx sw) c 2 f₀ rfl rfl rfl rfl rfl rfl rfl) $$ [H8 HY2 HvO]
  · isplitl [H8]; · iexact H8
    isplitl [HY2] <;> iassumption
  iintro HQ
  iapply (mac_own m c 3 (S := ((insert 0 (insert 2 (insert 1 (insert 3 ∅)))) : Finset ℕ)) (S' := ((insert 3 (insert 2 (insert 1 (insert 0 ∅)))) : Finset (Fin 4))) (by decide) (by decide) ((k0_off5_eq c).trans (own0 c)) rfl) $$ [H5 H7]
  · isplitl [H5] <;> iassumption
  iintro ⟨H5, H7⟩
  iapply (mac_recv m κ ζ c 11 42 (by decide) (by decide) rfl rfl rfl rfl rfl rfl) $$ [HO HR']
  · isplitr; · iexact HR
    isplitl [HO] <;> iassumption
  iintro ⟨HO, HR', HG11⟩
  iapply (mac_owait m κ ζ (k0_pay1 sx sw) c 2 42 rfl) $$ [HO HQ]
  · isplitr; · iexact HR
    isplitl [HO] <;> iassumption
  iintro ⟨HO, H8, HvO, HY2⟩
  iapply (mac_out m (k0_pay1 sx sw) c 3 f₀ rfl rfl rfl rfl rfl rfl rfl) $$ [H8 HY3 HvO]
  · isplitl [H8]; · iexact H8
    isplitl [HY3] <;> iassumption
  iintro HQ
  iapply (mac_swait m κ ζ c 0 5 42 (by decide) rfl rfl rfl rfl) $$ [HO HF0]
  · isplitr; · iexact HR
    isplitl [HO] <;> iassumption
  iintro ⟨HO, HF0⟩
  iapply (mac_swait m κ ζ c 1 5 42 (by decide) rfl rfl rfl rfl) $$ [HO HF1]
  · isplitr; · iexact HR
    isplitl [HO] <;> iassumption
  iintro ⟨HO, HF1⟩
  iapply (mac_owait m κ ζ (k0_pay1 sx sw) c 3 42 rfl) $$ [HO HQ]
  · isplitr; · iexact HR
    isplitl [HO] <;> iassumption
  iintro ⟨HO, H8, HvO, HY3⟩
  rw [wp_ret]
  iapply Hk
  isplitl [Hat]; · iexact Hat
  isplitl [Hsx]; · iexact Hsx
  isplitl [Hsw]; · iexact Hsw
  unfold ringPost
  isplitl [HO HS HC HF0 HF1 HR' HV]
  · isplitl [HO]; · iexact HO
    isplitl [HS]; · iexact HS
    isplitl [HC]; · iexact HC
    isplitl [HF0]; · iexact HF0
    isplitl [HF1]; · iexact HF1
    isplitl [HR'] <;> iassumption
  isplitl [HX0 HX1 HX2 HX3]
  · isplitl [HX0]; · iexact HX0
    isplitl [HX1]; · iexact HX1
    isplitl [HX2] <;> iassumption
  isplitl [HW0 HW1 HW2 HW3]
  · isplitl [HW0]; · iexact HW0
    isplitl [HW1]; · iexact HW1
    isplitl [HW2] <;> iassumption
  isplitl [HY0 HY1 HY2 HY3]
  · isplitl [HY0]; · iexact HY0
    isplitl [HY1]; · iexact HY1
    isplitl [HY2] <;> iassumption
  isplitl [HX]; · iexact HX
  isplitl [H5]; · iexact H5
  isplitl [H7]; · iexact H7
  isplitl [H8]; · iexact H8
  isplitl [HvW]; · iexact HvW
  isplitl [HvO]; · iexact HvO
  isplitl [HG8]; · iexact HG8
  isplitl [HG9]; · iexact HG9
  isplitl [HG10] <;> iassumption

end Cert.KernelIdeal.Ring

end
-- ==== Proof.IGhost.lean ====
/-
The ghost state of the launch: what the launch element is, how its parts are dealt to the devices, and how each
device comes to hold what it starts from.
-/
module

public import proofs.«01_k».proof.Proof.IBody
public import Idealize.ShloMosaic.Lib.Pipeline.TalkSched

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf launchCred)
open Idealize.ShloMosaic.TalkSites (Pay tallyL tallyL_pos bigSepL_perm)

variable {F : FTy → Type} [FloatOps F]

local notation "𝕄" => MT nD τ sig ℕ (Elt F) ℕ UU ℕ

variable (m : (ℓ : Loc nD τ sig) → Buf (Elt F) ℓ)

/-! ## The launch element -/

/-- All cells of the protocol. -/
def ringCells : Finset (GSem nD τ sig) :=
  Finset.univ.map ⟨fun p : Dev nD × CK => kc p.1 p.2, fun p p' h => Prod.ext (kc_inj h).1 (kc_inj h).2⟩

/-- The duties of a device's cells in one direction, numbered: the entry signal, the sends, the receives, the credits. -/
abbrev DI : Type := Bool × (Unit ⊕ (Fin 12 ⊕ (Fin 12 ⊕ Fin 8)))
def diK : DI → CK
  | (_, .inl _) => .bar
  | (b, .inr (.inl i)) => .snd b (f2 i.val)
  | (b, .inr (.inr (.inl i))) => .rcv b (fm i.val)
  | (b, .inr (.inr (.inr _))) => .crd b
def diR : DI → ℕ
  | (_, .inl _) => 0
  | (_, .inr (.inl i)) => i.val / 2
  | (_, .inr (.inr (.inl i))) => i.val / 4
  | (_, .inr (.inr (.inr _))) => 0
def diD : DI → ℕ
  | (b, .inl _) => b.toNat
  | (_, .inr (.inl _)) => 0
  | (_, .inr (.inr (.inl _))) => 0
  | (_, .inr (.inr (.inr j))) => j.val
theorem di_inj : ∀ y y' : DI, (diK y, diR y, diD y) = (diK y', diR y', diD y') → y = y' := by
  have h2 : ∀ (b b' : Bool) (i i' : Fin 12), (CK.snd b (f2 i.val), i.val / 2) = (CK.snd b' (f2 i'.val), i'.val / 2) → b = b' ∧ i = i' := by decide +kernel
  have h4 : ∀ (b b' : Bool) (i i' : Fin 12), (CK.rcv b (fm i.val), i.val / 4) = (CK.rcv b' (fm i'.val), i'.val / 4) → b = b' ∧ i = i' := by decide +kernel
  have h1 : ∀ b b' : Bool, b.toNat = b'.toNat → b = b' := by decide
  rintro ⟨b, _ | i | i | j⟩ ⟨b', _ | i' | i' | j'⟩ h
  all_goals have hk := congrArg Prod.fst h
  all_goals have hr := congrArg (fun x : CK × ℕ × ℕ => x.2.1) h
  all_goals have hd := congrArg (fun x : CK × ℕ × ℕ => x.2.2) h
  all_goals simp only [diK, diR, diD, reduceCtorEq] at hk hr hd
  · rw [h1 b b' hd]
  · obtain ⟨rfl, rfl⟩ := h2 b b' i i' (Prod.ext hk hr); rfl
  · obtain ⟨rfl, rfl⟩ := h4 b b' i i' (Prod.ext hk hr); rfl
  · injection hk with hb
    rw [hb, Fin.ext hd]

def tokOf (x : Dev nD × DI) : GSem nD τ sig × ℕ × ℕ := (kc x.1 (diK x.2), diR x.2, diD x.2)
theorem tokOf_injective : Function.Injective tokOf := fun x x' h => by
  have h1 := kc_inj (congrArg Prod.fst h)
  have h2 := congrArg Prod.snd h
  exact Prod.ext h1.1 (di_inj _ _ (Prod.ext h1.2 h2))
/-- All duty tokens. -/
def ringToks : Finset (GSem nD τ sig × ℕ × ℕ) := Finset.univ.map ⟨tokOf, tokOf_injective⟩

/-- The launch element. -/
def u₀ : UU :=
  (initOf (Pipeline.cells cfgs cellOf_inj) (Pipeline.launchToks cfgs cellOf_inj), (initOf ringCells ringToks, (initSlots keys 1, (1 : Counters))))

/-! ## Dealing -/

/-- A family over the devices may be dealt around the ring. -/
def srcE (b : Bool) : Dev nD ≃ Dev nD := ⟨src b, dst b, dst_src b, src_dst b⟩

omit [FloatOps F] in
theorem fin_range {n : ℕ} (Φ : ℕ → sProp 𝕄) : bigSep Finset.univ (fun i : Fin n => Φ i.val) = bigSep (Finset.range n) Φ := by
  have h : Finset.range n = (Finset.univ : Finset (Fin n)).map Fin.valEmbedding := by
    ext x
    simp only [Finset.mem_range, Finset.mem_map, Finset.mem_univ, true_and, Fin.valEmbedding_apply]
    exact ⟨fun h => ⟨⟨x, h⟩, rfl⟩, fun ⟨y, hy⟩ => hy ▸ y.isLt⟩
  rw [h, bigSep_map]; rfl

omit [FloatOps F] in
theorem around (e : Bool → (Dev nD ≃ Dev nD)) (Φ : Bool → Dev nD → sProp 𝕄) :
    (bigSep Finset.univ fun c : Dev nD => bigSep Finset.univ fun b : Bool => Φ b c)
      = bigSep Finset.univ fun c : Dev nD => bigSep Finset.univ fun b : Bool => Φ b (e b c) := by
  rw [bigSep_univ_comm, bigSep_univ_comm (fun (c : Dev nD) (b : Bool) => Φ b (e b c))]
  exact bigSep_congr fun b _ => bigSep_univ_equiv (e b) (Φ b)

/-- The tokens device `c` holds in direction `b`: of the duties it pays. -/
def payT (c : Dev nD) (b : Bool) : sProp 𝕄 :=
  iprop(dutyTok ER (kc (src b c) .bar) 0 b.toNat
    ∗ bigSep (Finset.range 12) (fun i => dutyTok ER (kc c (.snd b (f2 i))) (i / 2) 0)
    ∗ bigSep (Finset.range 12) (fun i => dutyTok ER (kc (dst b c) (.rcv b (fm i))) (i / 4) 0)
    ∗ bigSep (Finset.range 8) (fun j => dutyTok ER (kc (src b c) (.crd b)) 0 j))
/-- The tokens of its own cells' duties. -/
def ownT (c : Dev nD) (b : Bool) : sProp 𝕄 :=
  iprop(dutyTok ER (kc c .bar) 0 b.toNat
    ∗ bigSep (Finset.range 12) (fun i => dutyTok ER (kc c (.snd b (f2 i))) (i / 2) 0)
    ∗ bigSep (Finset.range 12) (fun i => dutyTok ER (kc c (.rcv b (fm i))) (i / 4) 0)
    ∗ bigSep (Finset.range 8) (fun j => dutyTok ER (kc c (.crd b)) 0 j))
/-- Its rights on the message slots: to write those it sends to, to give up those it reads. -/
def sltT (c : Dev nD) (b : Bool) : sProp 𝕄 :=
  iprop(bigSep (Finset.range 12) (fun i => writeTok ES (c, b, i) 1) ∗ bigSep (Finset.range 12) (fun i => readerAt ES (src b c, b, i) 0))

omit [FloatOps F] in
theorem toks_own : bigSep ringToks (fun x => (dutyTok ER x.1 x.2.1 x.2.2 : sProp 𝕄))
    = bigSep Finset.univ fun c : Dev nD => bigSep Finset.univ fun b : Bool => ownT c b := by
  unfold ringToks
  rw [bigSep_map, bigSep_univ_prod]
  refine bigSep_congr fun c _ => ?_
  rw [bigSep_univ_prod]
  refine bigSep_congr fun b _ => ?_
  rw [bigSep_univ_sum, bigSep_univ_sum, bigSep_univ_sum]
  unfold ownT
  rw [← fin_range, ← fin_range, ← fin_range, bigSep_univ_of_subsingleton ()]
  rfl

omit [FloatOps F] in
/-- The tokens dealt to those who pay. -/
theorem toks_pay : (bigSep Finset.univ fun c : Dev nD => bigSep Finset.univ fun b : Bool => (ownT c b : sProp 𝕄))
    ⊢ bigSep Finset.univ fun c : Dev nD => bigSep Finset.univ fun b : Bool => payT c b := by
  unfold ownT payT
  simp only [bigSep_sep']
  rw [around srcE (fun b c => (dutyTok ER (kc c .bar) 0 b.toNat : sProp 𝕄)),
    around (fun b => (srcE b).symm) (fun b c => bigSep (Finset.range 12) (fun i => (dutyTok ER (kc c (.rcv b (fm i))) (i / 4) 0 : sProp 𝕄))),
    around srcE (fun b c => bigSep (Finset.range 8) (fun j => (dutyTok ER (kc c (.crd b)) 0 j : sProp 𝕄)))]
  iintro H; iexact H

omit [FloatOps F] in
theorem keys_dev (Φ : KeyT → sProp 𝕄) :
    bigSep keys Φ = bigSep Finset.univ fun c : Dev nD => bigSep Finset.univ fun b : Bool => bigSep (Finset.range 12) fun i => Φ (c, b, i) := by
  have h : keys = (Finset.univ : Finset (Dev nD × (Bool × Fin 12))).map ⟨fun x => ((x.1, x.2.1, x.2.2.val) : KeyT), fun x y h => by
      have h1 := congrArg Prod.fst h
      have h2 := congrArg (fun k : KeyT => k.2.1) h
      have h3 := congrArg (fun k : KeyT => k.2.2) h
      exact Prod.ext h1 (Prod.ext h2 (Fin.ext h3))⟩ := by
    ext ⟨c, b, i⟩
    simp only [keys, Finset.mem_product, Finset.mem_univ, Finset.mem_range, true_and, Finset.mem_map, Function.Embedding.coeFn_mk]
    exact ⟨fun h => ⟨(c, b, ⟨i, h⟩), rfl⟩, fun ⟨y, hy⟩ => lt_of_eq_of_lt (congrArg (fun k : KeyT => k.2.2) hy).symm y.2.2.isLt⟩
  rw [h, bigSep_map, bigSep_univ_prod]
  refine bigSep_congr fun c _ => ?_
  rw [bigSep_univ_prod]
  exact bigSep_congr fun b _ => fin_range (fun i => Φ (c, b, i))

omit [FloatOps F] in
theorem slots_deal :
    iprop(bigSep keys (fun k => (readerAt ES k 0 : sProp 𝕄)) ∗ bigSep (keys ×ˢ Finset.range 1) (fun x => writeTok ES x.1 (x.2 + 1)))
      ⊢ bigSep Finset.univ fun c : Dev nD => bigSep Finset.univ fun b : Bool => sltT c b := by
  have hw : bigSep (keys ×ˢ Finset.range 1) (fun x => (writeTok ES x.1 (x.2 + 1) : sProp 𝕄)) = bigSep keys fun k => writeTok ES k 1 := by
    rw [Finset.range_one, Finset.product_singleton, bigSep_map]
    rfl
  rw [hw, keys_dev, keys_dev]
  unfold sltT
  simp only [bigSep_sep']
  rw [around srcE (fun b c => bigSep (Finset.range 12) (fun i => (readerAt ES (c, b, i) 0 : sProp 𝕄)))]
  iintro ⟨H1, H2⟩
  isplitl [H2]; · iexact H2
  iexact H1

/-- What all devices know: every cell is at its first round, every slot has its record. -/
def known : sProp 𝕄 :=
  iprop(bigSep Finset.univ (fun p : Dev nD × CK => reached ER (kc p.1 p.2) 0) ∗ ∃ ζ : KeyT → ℕ, bigSep keys (fun k => slotInv ES (ζ k) k (slotOf k)))
instance known_persistent : BI.Persistent (known (F := F)) := by unfold known; infer_instance

/-- What device `c` holds of the ghost state. -/
def mine (c : Dev nD) : sProp 𝕄 :=
  iprop(bigSep Finset.univ (fun k : CK => atPos ER (kc c k) 0 ∅ 0)
    ∗ bigSep Finset.univ (fun b : Bool => payT c b) ∗ bigSep Finset.univ (fun b : Bool => sltT c b))

/-- What the launch element deals device `c`. -/
def G (c : Dev nD) : sProp 𝕄 :=
  iprop(bigSep Finset.univ (fun k : CK => roundState ER (Rd m) (kc c k) 0) ∗ known ∗ mine c)

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem fund_ring :
    iprop(BI.own (ER (initOf ringCells ringToks)) ∗ BI.own (ES (initSlots keys 1))) ⊢ (|={Set.univ}=> bigSep Finset.univ (G m) : sProp 𝕄) := by
  have hX (Φ : GSem nD τ sig → sProp 𝕄) : bigSep ringCells Φ = bigSep Finset.univ fun p : Dev nD × CK => Φ (kc p.1 p.2) := by
    unfold ringCells; rw [bigSep_map]; rfl
  have hS : ∀ k : KeyT, Storable (upEmb : UEmb _ 𝕄) (slotOf (F := F) k) := fun k => by unfold slotOf; infer_instance
  iintro ⟨HX, HS⟩
  imod (Rounds.fund ER (Rd m) ringCells ringToks) $$ HX with ⟨Hst, Hr, Hat, Htok⟩
  imod (slots_init ES keys 1 (fun k => (slotOf k : sProp 𝕄))) $$ HS with ⟨%ζ, -, #HI, Hrd, Hwr⟩
  imodintro
  ihave Hst := (Entails.of_eq ((hX fun g => roundState ER (Rd m) g 0).trans (bigSep_univ_prod _))) $$ Hst
  ihave Hat := (Entails.of_eq ((hX fun g => atPos ER g 0 ∅ 0).trans (bigSep_univ_prod _))) $$ Hat
  ihave #Hr := (Entails.of_eq (hX fun g => reached ER g 0)) $$ Hr
  ihave Htok := ((Entails.of_eq toks_own).trans toks_pay) $$ Htok
  ihave Hsl := (slots_deal (F := F)) $$ [Hrd Hwr]
  · isplitl [Hrd] <;> iassumption
  iapply (with_persistent (R := known) (Φ := fun c => iprop(bigSep Finset.univ (fun k : CK => roundState ER (Rd m) (kc c k) 0) ∗ mine c)) fun c _ => by
    unfold G
    iintro ⟨HK, Hst, Hm⟩
    isplitl [Hst]; · iexact Hst
    isplitl [HK] <;> iassumption)
  isplitr
  · unfold known
    isplitr; · iexact Hr
    iexists ζ; iexact HI
  unfold mine
  simp only [bigSep_sep']
  isplitl [Hst]; · iexact Hst
  isplitl [Hat]; · iexact Hat
  isplitl [Htok] <;> iassumption

/-! ## The cells -/

/-- The kernel's own semaphores: those of the cells but the entry's, then those of the local copies. -/
abbrev oList : List (SemLoc sig) := cks.tail.map csem ++ [.dma xS, .dma wS, .dma oS]
abbrev osem : Fin 17 → SemLoc sig := fun i => oList.get (i.cast (by rfl))
theorem ownSemFacts : Pipeline.OwnSemFacts cfg0.spec osem := by decide

/-- The semaphores of the local copies. -/
def locS (c : Dev nD) : sProp 𝕄 :=
  iprop(semVal ((c : Thread nD τ), .dma xS) 0 ∗ semVal ((c : Thread nD τ), .dma wS) 0 ∗ semVal ((c : Thread nD τ), .dma oS) 0)

/-- All cells of a device one by one. -/
theorem bigSep_ck (Φ : CK → sProp 𝕄) : bigSep Finset.univ Φ = bigSepL cks Φ := bigSep_univ_eq_bigSepL cks (by decide) (by decide) Φ

omit [FloatOps F] in
theorem ownSems0_eq (c : Dev nD) : (Pipeline.ownSems0 (Ix := ℕ) (Name := ℕ) (U := UU) (Lvl := ℕ) (Val := Elt F) (τ := τ) osem c : sProp 𝕄)
    = bigSepL oList fun s => semVal ((c : Thread nD τ), s) 0 := by
  rw [Pipeline.ownSems0_eq_of_list c osem [0, 1, 2, 3, 4, 5, 6, 7, 8, 9, 10, 11, 12, 13, 14, 15, 16] (by decide) (by decide)]; rfl
omit [FloatOps F] in
theorem unscopedSems0_eq (c : Dev nD) : (unscopedSems0 c : sProp 𝕄) = semVal (kc c .bar) 0 := by
  unfold unscopedSems0; rw [bigSep_eq_bigSepL_of_eq [SemLoc.reg barS] (by decide) (by decide)]; rfl

/-- A device's semaphores are those of its cells and those of its local copies. -/
theorem sems0_eq (c : Dev nD) :
    iprop(Pipeline.ownSems0 (Ix := ℕ) (Name := ℕ) (U := UU) (Lvl := ℕ) (Val := Elt F) (τ := τ) osem c ∗ unscopedSems0 c)
      = (iprop(bigSep Finset.univ (fun k : CK => semVal (kc c k) 0) ∗ locS c) : sProp 𝕄) := by
  rw [ownSems0_eq, unscopedSems0_eq, bigSep_ck, bigSepL_append, bigSepL_map]
  show iprop((bigSepL cks.tail (fun k => semVal (kc c k) 0) ∗ locS c) ∗ semVal (kc c .bar) 0) = iprop(bigSepL (.bar :: cks.tail) (fun k => semVal (kc c k) 0) ∗ locS c)
  rw [bigSepL_cons']
  refine eq_of_ent ?_ ?_
  · iintro ⟨⟨H1, H2⟩, H3⟩
    isplitr [H2]
    · isplitl [H3] <;> iassumption
    · iexact H2
  · iintro ⟨⟨H3, H1⟩, H2⟩
    isplitr [H3]
    · isplitl [H1] <;> iassumption
    · iexact H3

/-- What device `c` starts from, of the ghost state. -/
def G' (c : Dev nD) : sProp 𝕄 :=
  iprop((∃ κ : Dev nD × CK → ℕ, bigSep Finset.univ (fun p : Dev nD × CK => cellInv ER (Rd m) (κ p) (kc p.1 p.2))) ∗ known ∗ mine c ∗ locS c)

/-- The cells' invariants are allocated from the semaphores of all devices. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have hc (c : Dev nD) : iprop(Pipeline.ownSems0 (Ix := ℕ) (Name := ℕ) (U := UU) (Lvl := ℕ) (Val := Elt F) (τ := τ) osem c ∗ unscopedSems0 c ∗ G m c)
      ⊢ (|={Set.univ}=> iprop((bigSep Finset.univ fun k : CK => iprop(∃ κ : ℕ, cellInv ER (Rd m) κ (kc c k))) ∗ known ∗ mine c ∗ locS c) : sProp 𝕄) := by
    unfold G
    iintro ⟨Hos, Hus, Hst, HK, Hm⟩
    ihave Hv := (Entails.of_eq (sems0_eq (F := F) c)) $$ [Hos Hus]
    · isplitl [Hos] <;> iassumption
    icases Hv with ⟨Hv, Hl⟩
    imod (show iprop((bigSep Finset.univ fun k : CK => semVal (kc c k) 0) ∗ bigSep Finset.univ fun k : CK => roundState ER (Rd m) (kc c k) 0)
        ⊢ (|={Set.univ}=> bigSep Finset.univ fun k : CK => iprop(∃ κ : ℕ, cellInv ER (Rd m) κ (kc c k)) : sProp 𝕄) from by
          rw [← bigSep_sep']
          exact (bigSep_mono fun k _ => (Rounds.body_intro ER (Rd m) (kc c k)).trans inv_alloc).trans (bigSep_fupd _ _)) $$ [Hv Hst] with Hinv
    · isplitl [Hv] <;> iassumption
    imodintro
    isplitl [Hinv]; · iexact Hinv
    isplitl [HK]; · iexact HK
    isplitl [Hm] <;> iassumption
  refine ((bigSep_mono fun c _ => hc c).trans (bigSep_fupd _ _)).trans (show (_ : sProp 𝕄) ⊢ _ from ?_)
  rw [bigSep_sep', ← bigSep_univ_prod (fun p : Dev nD × CK => iprop(∃ κ : ℕ, cellInv ER (Rd m) κ (kc p.1 p.2)))]
  iintro H
  imod H with ⟨HI, HR⟩
  imodintro
  ihave HK := (BI.bigSep_exists_pi Finset.univ (fun (p : Dev nD × CK) (κ : ℕ) => (cellInv ER (Rd m) κ (kc p.1 p.2) : sProp 𝕄))) $$ HI
  icases HK with ⟨%κ, #HI⟩
  iapply (with_persistent (R := bigSep Finset.univ (fun p : Dev nD × CK => cellInv ER (Rd m) (κ p) (kc p.1 p.2))) fun c _ => by
    unfold G'
    iintro ⟨HI, HR⟩
    isplitl [HI]; · iexists κ; iexact HI
    iexact HR)
  isplitr; · iexact HI
  iexact HR

/-! ## The launch credit -/

/-- The payments, by kind. -/
def evs' : List Ev :=
  [.bar false, .bar true] ++ (((List.range 12).map (.send false) ++ (List.range 12).map (.send true))
    ++ ((List.range 8).map (.cred false) ++ (List.range 8).map (.cred true)))
theorem evs_perm : evs.Perm evs' := by decide +kernel
theorem evs_nodup : evs.Nodup := by decide +kernel

/-- What device `c` may wait for, for a payment made to it. -/
def crE (c : Dev nD) : Ev → sProp 𝕄
  | .bar b => cred (tallyAt (kc c .bar) 0 1)
  | .send b i => cred (tallyAt (kc c (.rcv b (fm i))) i N)
  | .cred b j => cred (tallyAt (kc c (.crd b)) j 1)

omit [FloatOps F] in
theorem cred_list (l : List Ev) (c : Dev nD) : (launchCred (fun d => tallyL (l.map (pay d))) c : sProp 𝕄) ⊢ bigSepL l (crE c) := by
  induction l with
  | nil => exact (Entails.of_eq (Pipeline.launchCred_zero c)).trans (Entails.of_eq rfl)
  | cons e l ih =>
    rw [bigSepL_cons']
    refine (Entails.of_eq (Pipeline.launchCred_add (fun d => (pay d e).tally) (fun d => tallyL (l.map (pay d))) c)).trans (BI.sep_mono ?_ ih)
    cases e with
    | bar b => exact Pipeline.launchCred_tallyAt (csem .bar) (src b) (dst b) (src_dst b) (dst_src b) 0 1 c
    | send b i => exact Pipeline.launchCred_tallyAt (csem (.rcv b (fm i))) (dst b) (src b) (dst_src b) (src_dst b) i N c
    | cred b j => exact Pipeline.launchCred_tallyAt (csem (.crd b)) (src b) (dst b) (src_dst b) (dst_src b) j 1 c

omit [FloatOps F] in
theorem list_range {n : ℕ} (Φ : ℕ → sProp 𝕄) : bigSepL (List.range n) Φ = bigSep (Finset.range n) Φ :=
  (bigSep_eq_bigSepL_of_eq (List.range n) (by ext x; simp) List.nodup_range Φ).symm

/-- The credit of direction `b`. -/
def crB (c : Dev nD) (b : Bool) : sProp 𝕄 :=
  iprop(bigSep (Finset.range 12) (fun i => cred (tallyAt (kc c (.rcv b (fm i))) i N)) ∗ bigSep (Finset.range 8) (fun j => cred (tallyAt (kc c (.crd b)) j 1)))

omit [FloatOps F] in
/-- The credit a device is launched with. -/
theorem creds (c : Dev nD) :
    (launchCred (fun d => owedAt d 0) c : sProp 𝕄) ⊢ iprop(cred (tallyAt (kc c .bar) 0 2) ∗ crB c false ∗ crB c true) := by
  refine (cred_list evs c).trans ?_
  rw [bigSepL_perm evs_perm evs_nodup]
  unfold evs'
  rw [bigSepL_append, bigSepL_append, bigSepL_append, bigSepL_append, bigSepL_map, bigSepL_map, bigSepL_map, bigSepL_map,
    list_range, list_range, list_range, list_range]
  have hb : (bigSepL [Ev.bar false, Ev.bar true] (crE c) : sProp 𝕄) = iprop(cred (tallyAt (kc c .bar) 0 1) ∗ cred (tallyAt (kc c .bar) 0 1)) := rfl
  rw [hb]
  unfold crB
  iintro ⟨⟨H1, H2⟩, ⟨Hf, Ht⟩, Gf, Gt⟩
  isplitl [H1 H2]
  · ihave H := (cred_add (tallyAt (kc c .bar) 0 1) (tallyAt (kc c .bar) 0 1)).2 $$ [H1 H2]
    · isplitl [H1] <;> iassumption
    iapply (Entails.of_eq (congrArg cred (tallyAt_add (kc c .bar) 0 1 1))) $$ H
  isplitl [Hf Gf]
  · isplitl [Hf]; · iexact Hf
    iexact Gf
  · isplitl [Ht]; · iexact Ht
    iexact Gt

end Cert.KernelIdeal.Ring

end
-- ==== Proof.IBuf.lean ====
/-
The buffers of the launch as the body holds them: the arrays and scratch buffers cut into the rectangles the body
works on, and put together again.
-/
module

public import proofs.«01_k».proof.Proof.IGhost

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## The rectangles -/

/-- Rectangles of one size are disjoint when they are apart on some axis. -/
theorem apart {s : Shape} {n : ℕ} (off : Fin n → Fin s.rank → ℕ) (size : Fin s.rank → ℕ) (inb : ∀ i a, off i a + size a ≤ s.size a) (a : Fin s.rank)
    (h : ∀ i j, i ≠ j → off i a + size a ≤ off j a ∨ off j a + size a ≤ off i a) :
    ∀ i j, i ≠ j → Disjoint (Rect.unit (off i) size (inb i)).set (Rect.unit (off j) size (inb j)).set := fun i j hij => by
  refine Finset.disjoint_left.mpr fun x h1 h2 => ?_
  have h1 := Rect.mem_set_unit.mp h1 a
  have h2 := Rect.mem_set_unit.mp h2 a
  have := h i j hij
  omega

abbrev chunks (c : Dev nD) (j : Fin 4) : Rect S4096x1024 := chunkR c j.val
theorem chunks_disj (c : Dev nD) : ∀ i j, i ≠ j → Disjoint (chunks c i).set (chunks c j).set :=
  apart (s := S4096x1024) (fun j : Fin 4 => ![1024 * ((c.val + j.val) % 4), 0]) S1024x1024.size (fun j => inbC c j.val) 0 fun i j hij => by
    have h : (i : ℕ) ≠ j := fun h => hij (Fin.ext h)
    have hi := i.isLt
    have hj := j.isLt
    show 1024 * ((c.val + i.val) % 4) + 1024 ≤ 1024 * ((c.val + j.val) % 4) ∨ 1024 * ((c.val + j.val) % 4) + 1024 ≤ 1024 * ((c.val + i.val) % 4)
    omega
theorem chunks_cover (c : Dev nD) : ∀ x : S4096x1024.Idx, ∃ i, x ∈ (chunks c i).set := fun x => by
  have h0 : (x 0 : ℕ) < 4096 := (x 0).isLt
  have h1 : (x 1 : ℕ) < 1024 := (x 1).isLt
  have hc : c.val < 4 := c.isLt
  refine ⟨⟨((x 0 : ℕ) / 1024 + 4 - c.val) % 4, Nat.mod_lt _ (by decide)⟩, Rect.mem_set_unit.mpr (Fin.forall_fin_two.mpr ⟨?_, ?_⟩)⟩
  · show 1024 * ((c.val + ((x 0 : ℕ) / 1024 + 4 - c.val) % 4) % 4) ≤ (x 0 : ℕ) ∧ (x 0 : ℕ) < 1024 * ((c.val + ((x 0 : ℕ) / 1024 + 4 - c.val) % 4) % 4) + 1024
    omega
  · exact ⟨Nat.zero_le _, lt_of_lt_of_eq h1 (Nat.zero_add 1024).symm⟩

theorem tiles_disj : ∀ i j, i ≠ j → Disjoint (tileR i).set (tileR j).set :=
  apart (s := S1024x8192) (fun t : Fin 4 => ![0, 2048 * t.val]) S1024x2048.size inbT 1 fun i j hij => by
    have h : (i : ℕ) ≠ j := fun h => hij (Fin.ext h)
    show 2048 * i.val + 2048 ≤ 2048 * j.val ∨ 2048 * j.val + 2048 ≤ 2048 * i.val
    omega
/-- The tile an index lies in, and its place there. -/
def tileIx (x : S1024x8192.Idx) : Fin 4 := ⟨(x 1 : ℕ) / 2048, by have : (x 1 : ℕ) < 8192 := (x 1).isLt; omega⟩
theorem tiles_cover : ∀ x : S1024x8192.Idx, ∃ i, x ∈ (tileR i).set := fun x => by
  have h0 : (x 0 : ℕ) < 1024 := (x 0).isLt
  have h1 : (x 1 : ℕ) < 8192 := (x 1).isLt
  refine ⟨tileIx x, Rect.mem_set_unit.mpr (Fin.forall_fin_two.mpr ⟨?_, ?_⟩)⟩
  · exact ⟨Nat.zero_le _, lt_of_lt_of_eq h0 (Nat.zero_add 1024).symm⟩
  · show 2048 * ((x 1 : ℕ) / 2048) ≤ (x 1 : ℕ) ∧ (x 1 : ℕ) < 2048 * ((x 1 : ℕ) / 2048) + 2048
    omega

theorem slots2_disj : ∀ i j, i ≠ j → Disjoint (r2 i).set (r2 j).set :=
  apart (s := S2x1024x1024) (fun r : Fin 2 => ![r.val, 0, 0]) S1x1024x1024.size inb2 0 fun i j hij => by
    have h : (i : ℕ) ≠ j := fun h => hij (Fin.ext h)
    show i.val + 1 ≤ j.val ∨ j.val + 1 ≤ i.val
    omega
theorem slots2_cover : ∀ x : S2x1024x1024.Idx, ∃ i, x ∈ (r2 i).set := fun x => by
  refine ⟨(x 0 : Fin 2), Rect.mem_set_unit.mpr fun a => ?_⟩
  match a with
  | ⟨0, _⟩ => exact ⟨Nat.le_refl _, Nat.lt_succ_self _⟩
  | ⟨1, _⟩ => exact ⟨Nat.zero_le _, lt_of_lt_of_eq (x 1).isLt (Nat.zero_add 1024).symm⟩
  | ⟨2, _⟩ => exact ⟨Nat.zero_le _, lt_of_lt_of_eq (x 2).isLt (Nat.zero_add 1024).symm⟩
theorem slots4_disj : ∀ i j, i ≠ j → Disjoint (r4 i).set (r4 j).set :=
  apart (s := S4x1024x1024) (fun r : Fin 4 => ![r.val, 0, 0]) S1x1024x1024.size inb4 0 fun i j hij => by
    have h : (i : ℕ) ≠ j := fun h => hij (Fin.ext h)
    show i.val + 1 ≤ j.val ∨ j.val + 1 ≤ i.val
    omega
theorem slots4_cover : ∀ x : S4x1024x1024.Idx, ∃ i, x ∈ (r4 i).set := fun x => by
  refine ⟨(x 0 : Fin 4), Rect.mem_set_unit.mpr fun a => ?_⟩
  match a with
  | ⟨0, _⟩ => exact ⟨Nat.le_refl _, Nat.lt_succ_self _⟩
  | ⟨1, _⟩ => exact ⟨Nat.zero_le _, lt_of_lt_of_eq (x 1).isLt (Nat.zero_add 1024).symm⟩
  | ⟨2, _⟩ => exact ⟨Nat.zero_le _, lt_of_lt_of_eq (x 2).isLt (Nat.zero_add 1024).symm⟩

/-! ## Whole buffers -/

omit [FloatOps F] in
theorem hold_whole (c : Dev nD) (b : Ref sig .tc) (f : Buf (Elt F) ((c : Thread nD τ).loc b)) :
    (hold (c : Thread nD τ) (Memref.whole b).view f : sProp 𝕄) = iprop((c : Thread nD τ).loc b ↦{fullShare} f) := by
  refine eq_of_ent ?_ ?_
  · unfold hold
    simp only [Memref.view_whole, View.read_whole, View.set_whole]
    iintro ⟨%g, %hg, H⟩
    rw [← show g = f from hg]
    iexact H
  · unfold hold
    simp only [Memref.view_whole, View.read_whole, View.set_whole]
    iintro H
    iexists f
    isplitr; · ipureintro; rfl
    iexact H
omit [FloatOps F] in
theorem any_whole (c : Dev nD) (b : Ref sig .tc) :
    (holdAny (c : Thread nD τ) (Memref.whole b).view : sProp 𝕄) = iprop(∃ f : Buf (Elt F) ((c : Thread nD τ).loc b), (c : Thread nD τ).loc b ↦{fullShare} f) := by
  unfold holdAny Release.slot
  simp only [Memref.view_whole, View.set_whole]

omit [FloatOps F] in
theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- The result device `c` leaves. -/
def outY (sc : F .f32) (c : Dev nD) : S1024x8192.Idx → F .f32 :=
  fun x => outT m sc c (tileIx x) (fun a => match a with
    | ⟨0, _⟩ => (x 0 : Fin 1024)
    | ⟨1, _⟩ => (⟨(x 1 : ℕ) % 2048, Nat.mod_lt _ (by decide)⟩ : Fin 2048))
theorem outY_emb (sc : F .f32) (c : Dev nD) (t : Fin 4) (x : S1024x2048.Idx) : outY m sc c ((tileR t).emb x) = outT m sc c t x := by
  have h1 : (x 1 : ℕ) < 2048 := (x 1).isLt
  have hv1 : (((tileR t).emb x) 1 : ℕ) = 2048 * t.val + (x 1 : ℕ) := by
    show 2048 * t.val + 1 * (x 1 : ℕ) = _; omega
  have hv0 : (((tileR t).emb x) 0 : ℕ) = (x 0 : ℕ) := by
    show 0 + 1 * (x 0 : ℕ) = _; omega
  have ht : tileIx ((tileR t).emb x) = t := Fin.ext (by
    show (((tileR t).emb x) 1 : ℕ) / 2048 = t.val
    rw [hv1]; omega)
  unfold outY
  rw [ht]
  refine congrArg _ (funext fun a => ?_)
  match a with
  | ⟨0, _⟩ => exact Fin.ext hv0
  | ⟨1, _⟩ => exact Fin.ext (by
      show (((tileR t).emb x) 1 : ℕ) % 2048 = (x 1 : ℕ)
      rw [hv1]; omega)

/-- All receive slots; -/
def Rslots (c : Dev nD) : sProp 𝕄 :=
  iprop((holdAny (c : Thread nD τ) (rcV false 0) ∗ holdAny (c : Thread nD τ) (rcV false 1) ∗ holdAny (c : Thread nD τ) (rcV false 2) ∗ holdAny (c : Thread nD τ) (rcV false 3))
    ∗ (holdAny (c : Thread nD τ) (rcV true 0) ∗ holdAny (c : Thread nD τ) (rcV true 1) ∗ holdAny (c : Thread nD τ) (rcV true 2) ∗ holdAny (c : Thread nD τ) (rcV true 3)))
/-- all send slots; -/
def Sslots (c : Dev nD) : sProp 𝕄 :=
  iprop((holdAny (c : Thread nD τ) (snV false 0) ∗ holdAny (c : Thread nD τ) (snV false 1)) ∗ (holdAny (c : Thread nD τ) (snV true 0) ∗ holdAny (c : Thread nD τ) (snV true 1)))
/-- the arrays in the large memory. -/
def Arrs (c : Dev nD) : sProp 𝕄 := iprop((XH m c 0 ∗ XH m c 1 ∗ XH m c 2 ∗ XH m c 3) ∗ (WH m c 0 ∗ WH m c 1 ∗ WH m c 2 ∗ WH m c 3))

/-- The arrays' blocks and tiles are the arrays. -/
theorem arrs_eq (c : Dev nD) : (Arrs m c : sProp 𝕄)
    = iprop(((c : Thread nD τ).loc main_arg0 ↦{fullShare} m ((c : Thread nD τ).loc main_arg0)) ∗ ((c : Thread nD τ).loc main_arg1 ↦{fullShare} m ((c : Thread nD τ).loc main_arg1))) := by
  have hx : (iprop(XH m c 0 ∗ XH m c 1 ∗ XH m c 2 ∗ XH m c 3) : sProp 𝕄) = hold (c : Thread nD τ) HX.view (X m c) := by
    refine (four (fun i : Fin 4 => (hold (c : Thread nD τ) (HX.view.slice (chunks c i)) (fun x => X m c ((chunks c i).emb x)) : sProp 𝕄))).symm.trans ?_
    exact eq_of_ent (hold_join (c : Thread nD τ) HX.view (m _) (chunks c) (chunks_disj c) (chunks_cover c) (X m c))
      (hold_split (c : Thread nD τ) HX.view (chunks c) (chunks_disj c) (chunks_cover c) (X m c))
  have hw : (iprop(WH m c 0 ∗ WH m c 1 ∗ WH m c 2 ∗ WH m c 3) : sProp 𝕄) = hold (c : Thread nD τ) HW.view (Wt m c) := by
    refine (four (fun i : Fin 4 => (hold (c : Thread nD τ) (HW.view.slice (tileR i)) (fun x => Wt m c ((tileR i).emb x)) : sProp 𝕄))).symm.trans ?_
    exact eq_of_ent (hold_join (c : Thread nD τ) HW.view (m _) tileR tiles_disj tiles_cover (Wt m c))
      (hold_split (c : Thread nD τ) HW.view tileR tiles_disj tiles_cover (Wt m c))
  unfold Arrs
  rw [hx, hw]
  exact congrArg₂ (fun P Q => iprop(P ∗ Q)) (hold_whole c main_arg0 _) (hold_whole c main_arg1 _)

/-- What the body works on, at any contents. -/
def Work (c : Dev nD) : sProp 𝕄 :=
  iprop((holdAny (c : Thread nD τ) (A5.access (chunkR c 0)) ∗ holdAny (c : Thread nD τ) (A5.access (chunkR c 1))
      ∗ holdAny (c : Thread nD τ) (A5.access (chunkR c 2)) ∗ holdAny (c : Thread nD τ) (A5.access (chunkR c 3)))
    ∗ holdAny (c : Thread nD τ) A6.view
    ∗ (holdAny (c : Thread nD τ) (A7.access (tileR 0)) ∗ holdAny (c : Thread nD τ) (A7.access (tileR 1))
      ∗ holdAny (c : Thread nD τ) (A7.access (tileR 2)) ∗ holdAny (c : Thread nD τ) (A7.access (tileR 3)))
    ∗ holdAny (c : Thread nD τ) A8.view ∗ Sslots c ∗ Rslots c)

/-- Cutting a buffer at unknown contents into rectangles, both ways. -/
theorem any_cut {sp : Space} {s : Shape} {e : EltTy} {n : ℕ} (c : Dev nD) (v : View sig .tc sp s e) (f₀ : Buf (Elt F) (v.loc (c : Thread nD τ))) (R : Fin n → Rect s)
    (hd : ∀ i j, i ≠ j → Disjoint (R i).set (R j).set) (hc : ∀ x : s.Idx, ∃ i, x ∈ (R i).set) :
    (holdAny (c : Thread nD τ) v : sProp 𝕄) = bigSep Finset.univ fun i => holdAny (c : Thread nD τ) (v.slice (R i)) :=
  eq_of_ent (any_split (c : Thread nD τ) v R hd hc) (any_join (c : Thread nD τ) v f₀ R hd hc)

include m in
/-- The scratch buffers are what the body works on. -/
theorem work_eq (c : Dev nD) : (Work c : sProp 𝕄) = Pipeline.scopedRest cfg0.spec c := by
  have h5 := (any_cut c A5.view (m _) (chunks c) (chunks_disj c) (chunks_cover c)).trans (four _)
  have h7 := (any_cut c A7.view (m _) tileR tiles_disj tiles_cover).trans (four _)
  have hs0 := (any_cut c (snB false).view (m _) r2 slots2_disj slots2_cover).trans (bigSep_univ_two _)
  have hs1 := (any_cut c (snB true).view (m _) r2 slots2_disj slots2_cover).trans (bigSep_univ_two _)
  have hr0 := (any_cut c (rcB false).view (m _) r4 slots4_disj slots4_cover).trans (four _)
  have hr1 := (any_cut c (rcB true).view (m _) r4 slots4_disj slots4_cover).trans (four _)
  rw [scopedRest0_eq, ← any_whole c cc0_scratch0, ← any_whole c cc0_scratch1, ← any_whole c cc0_scratch2, ← any_whole c cc0_scratch3,
    ← any_whole c cc0_scratch4, ← any_whole c cc0_scratch5, ← any_whole c cc0_scratch6, ← any_whole c cc0_scratch7]
  have e : (iprop(holdAny (c : Thread nD τ) A5.view ∗ holdAny (c : Thread nD τ) A6.view ∗ holdAny (c : Thread nD τ) A7.view ∗ holdAny (c : Thread nD τ) A8.view
      ∗ (holdAny (c : Thread nD τ) (snB false).view ∗ holdAny (c : Thread nD τ) (snB true).view) ∗ (holdAny (c : Thread nD τ) (rcB false).view ∗ holdAny (c : Thread nD τ) (rcB true).view)) : sProp 𝕄) = Work c := by
    rw [h5, h7, hs0, hs1, hr0, hr1]; rfl
  rw [← e]
  refine eq_of_ent ?_ ?_
  · iintro ⟨H5, H6, H7, H8, ⟨Hs0, Hs1⟩, Hr⟩
    isplitl [H5]; · iexact H5
    isplitl [H6]; · iexact H6
    isplitl [H7]; · iexact H7
    isplitl [H8]; · iexact H8
    isplitl [Hs0]; · iexact Hs0
    isplitl [Hs1]; · iexact Hs1
    iexact Hr
  · iintro ⟨H5, H6, H7, H8, Hs0, Hs1, Hr⟩
    isplitl [H5]; · iexact H5
    isplitl [H6]; · iexact H6
    isplitl [H7]; · iexact H7
    isplitl [H8]; · iexact H8
    isplitl [Hs0 Hs1]
    · isplitl [Hs0]; · iexact Hs0
      iexact Hs1
    iexact Hr

/-- The result's buffer is its tiles. -/
theorem res_any (c : Dev nD) : ((c : Thread nD τ).loc main_v1 ↦{fullShare} m ((c : Thread nD τ).loc main_v1) : sProp 𝕄)
    ⊢ iprop(holdAny (c : Thread nD τ) (HY.access (tileR 0)) ∗ holdAny (c : Thread nD τ) (HY.access (tileR 1))
      ∗ holdAny (c : Thread nD τ) (HY.access (tileR 2)) ∗ holdAny (c : Thread nD τ) (HY.access (tileR 3))) := by
  have h := (any_cut c HY.view (m _) tileR tiles_disj tiles_cover).trans (four _)
  rw [← hold_whole c main_v1]
  exact (hold_any (c : Thread nD τ) HY.view _).trans (Entails.of_eq h)

theorem res_out (sc : F .f32) (c : Dev nD) :
    iprop(hold (c : Thread nD τ) (HY.access (tileR 0)) (outT m sc c 0) ∗ hold (c : Thread nD τ) (HY.access (tileR 1)) (outT m sc c 1)
      ∗ hold (c : Thread nD τ) (HY.access (tileR 2)) (outT m sc c 2) ∗ hold (c : Thread nD τ) (HY.access (tileR 3)) (outT m sc c 3))
    ⊢ ((c : Thread nD τ).loc main_v1 ↦{fullShare} (outY m sc c : Buf (Elt F) ((c : Thread nD τ).loc main_v1)) : sProp 𝕄) := by
  have hY (t : Fin 4) : outT m sc c t = fun x => outY m sc c ((tileR t).emb x) := funext fun x => (outY_emb m sc c t x).symm
  have h := hold_join (Ix := ℕ) (Name := ℕ) (U := UU) (Lvl := ℕ) (c : Thread nD τ) HY.view (m _) tileR tiles_disj tiles_cover (outY m sc c)
  rw [hY 0, hY 1, hY 2, hY 3]
  refine (Entails.of_eq (four (fun t => hold (c : Thread nD τ) (HY.view.slice (tileR t)) (fun x => outY m sc c ((tileR t).emb x)))).symm).trans (h.trans ?_)
  exact Entails.of_eq (hold_whole c main_v1 _)

end Cert.KernelIdeal.Ring

end
-- ==== Proof.IEnter.lean ====
/-
One direction of the ring at the start and at the end of the body: what a device is dealt is what the body starts from,
and what the body ends with closes every cell of the direction.
-/
module

public import proofs.«01_k».proof.Proof.IBuf

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (κ : Dev nD × CK → ℕ) (ζ : KeyT → ℕ)

/-! ## The cells of one direction -/

/-- A family over the cells of direction `b`. -/
def dirB (Φ : CK → sProp 𝕄) (b : Bool) : sProp 𝕄 :=
  iprop((Φ (.rcv b 0) ∗ Φ (.rcv b 1) ∗ Φ (.rcv b 2) ∗ Φ (.rcv b 3)) ∗ (Φ (.snd b 0) ∗ Φ (.snd b 1)) ∗ Φ (.crd b))

/-- All cells are the entry's, and those of the two directions. -/
theorem ck_dir (Φ : CK → sProp 𝕄) : bigSep Finset.univ Φ = iprop(Φ .bar ∗ dirB Φ false ∗ dirB Φ true) := by
  rw [bigSep_ck (F := F)]
  show iprop(Φ .bar ∗ Φ (.rcv false 0) ∗ Φ (.rcv false 1) ∗ Φ (.rcv false 2) ∗ Φ (.rcv false 3) ∗ Φ (.rcv true 0) ∗ Φ (.rcv true 1) ∗ Φ (.rcv true 2) ∗ Φ (.rcv true 3)
    ∗ Φ (.snd false 0) ∗ Φ (.snd false 1) ∗ Φ (.snd true 0) ∗ Φ (.snd true 1) ∗ Φ (.crd false) ∗ Φ (.crd true)) = _
  unfold dirB
  refine eq_of_ent ?_ ?_
  · iintro ⟨H0, A0, A1, A2, A3, B0, B1, B2, B3, S0, S1, T0, T1, C, D⟩
    isplitl [H0]; · iexact H0
    isplitl [A0 A1 A2 A3 S0 S1 C]
    · isplitl [A0 A1 A2 A3]
      · isplitl [A0]; · iexact A0
        isplitl [A1]; · iexact A1
        isplitl [A2] <;> iassumption
      isplitl [S0 S1]; · (isplitl [S0] <;> iassumption)
      iexact C
    · isplitl [B0 B1 B2 B3]
      · isplitl [B0]; · iexact B0
        isplitl [B1]; · iexact B1
        isplitl [B2] <;> iassumption
      isplitl [T0 T1]; · (isplitl [T0] <;> iassumption)
      iexact D
  · iintro ⟨H0, ⟨⟨A0, A1, A2, A3⟩, ⟨S0, S1⟩, C⟩, ⟨B0, B1, B2, B3⟩, ⟨T0, T1⟩, D⟩
    isplitl [H0]; · iexact H0
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [S0]; · iexact S0
    isplitl [S1]; · iexact S1
    isplitl [T0]; · iexact T0
    isplitl [T1]; · iexact T1
    isplitl [C] <;> iassumption

/-- The receive slots of direction `b`; -/
def rSlots (c : Dev nD) (b : Bool) : sProp 𝕄 :=
  iprop(holdAny (c : Thread nD τ) (rcV b 0) ∗ holdAny (c : Thread nD τ) (rcV b 1) ∗ holdAny (c : Thread nD τ) (rcV b 2) ∗ holdAny (c : Thread nD τ) (rcV b 3))
/-- its send slots. -/
def sSlots (c : Dev nD) (b : Bool) : sProp 𝕄 := iprop(holdAny (c : Thread nD τ) (snV b 0) ∗ holdAny (c : Thread nD τ) (snV b 1))

/-- That every cell is at its first round. -/
def reach0 : sProp 𝕄 := bigSep Finset.univ (fun p : Dev nD × CK => reached ER (kc p.1 p.2) 0)
instance reach0_persistent : BI.Persistent (reach0 (F := F)) := by unfold reach0; infer_instance
omit [FloatOps F] in
theorem reach0_at (c : Dev nD) (k : CK) : (reach0 : sProp 𝕄) ⊢ reached ER (kc c k) 0 :=
  bigSep_elim (i := ((c, k) : Dev nD × CK)) (Φ := fun p : Dev nD × CK => (reached ER (kc p.1 p.2) 0 : sProp 𝕄)) (Finset.mem_univ _)

omit [FloatOps F] in
/-- The twelve readers are the first four and those given back later. -/
theorem first4 (Φ : ℕ → sProp 𝕄) : bigSep (Finset.range 12) Φ = iprop(bigSep (Finset.range 4) Φ ∗ bigSep (Finset.Ico 0 8) fun j => Φ (j + 4)) := by
  have h : Finset.range 12 = Finset.range 4 ∪ (Finset.Ico 0 8).map (addRightEmbedding 4) := by decide
  rw [h]
  refine (bigSep_union (by decide)).trans ?_
  rw [bigSep_map]; rfl
omit [FloatOps F] in
theorem range4 (Φ : ℕ → sProp 𝕄) : bigSep (Finset.range 4) Φ = iprop(Φ 0 ∗ Φ 1 ∗ Φ 2 ∗ Φ 3) :=
  bigSep_eq_bigSepL_of_eq [0, 1, 2, 3] (by decide) (by decide) Φ

/-- The fresh receive slots are given to the sender, once for each of the first four messages. -/
theorem enter (c : Dev nD) (b : Bool) :
    iprop(Recs m κ ζ ∗ reach0 ∗ bigSep (Finset.range 4) (fun i => readerAt ES (src b c, b, i) 0) ∗ rSlots c b)
      ⊢ (|={Set.univ}=> Upto (src b c) b 0 : sProp 𝕄) := by
  have h4 : (rSlots c b : sProp 𝕄) = bigSep (Finset.range 4) fun i => holdAny (c : Thread nD τ) (rcV b (fm i)) := (range4 fun i => holdAny (c : Thread nD τ) (rcV b (fm i))).symm
  have hs : iprop((Recs m κ ζ ∗ reach0) ∗ bigSep (Finset.range 4) (fun i => iprop(readerAt ES (src b c, b, i) 0 ∗ holdAny (c : Thread nD τ) (rcV b (fm i)))))
      ⊢ (bigSep (Finset.range 4) (fun i => iprop(|={Set.univ}=> (released ES (src b c, b, i) 1 ∗ reached ER (kc (dst b (src b c)) (.rcv b (fm i))) (i / 4)))) : sProp 𝕄) :=
    with_persistent fun i hi => by
      have hi4 : i < 4 := Finset.mem_range.mp hi
      iintro ⟨⟨#HR, #H0⟩, Hr, Hh⟩
      imod (step_release m κ ζ c b (i := i) (by omega)) $$ [Hr Hh] with Hx
      · isplitr; · iexact HR
        isplitl [Hr] <;> iassumption
      imodintro
      isplitl [Hx]; · iexact Hx
      rw [dst_src, show i / 4 = 0 by omega]
      iapply (reach0_at (F := F) c (.rcv b (fm i))) $$ H0
  refine BIBase.Entails.trans ?_ (hs.trans (bigSep_fupd _ _))
  rw [h4, bigSep_sep']
  iintro ⟨HR, H0, Hr, Hh⟩
  isplitl [HR H0]
  · isplitl [HR] <;> iassumption
  isplitl [Hr] <;> iassumption

/-- What the body starts from in direction `b`. -/
def dirPre (c : Dev nD) (b : Bool) : sProp 𝕄 :=
  iprop(Snd c b 0 ∗ Crd c b 0 ∗ SFree c b 0 0 ∗ SFree c b 1 0 ∗ Rcv c b 0 ∗ Giv c b 0)
/-- What it ends with. -/
def dirPost (c : Dev nD) (b : Bool) : sProp 𝕄 :=
  iprop(Crd c b 8 ∗ SFree c b 0 6 ∗ SFree c b 1 6 ∗ Rcv c b 12)

/-- What a device is dealt for direction `b`, but for the entry's part. -/
def dealt (c : Dev nD) (b : Bool) : sProp 𝕄 :=
  iprop(dirB (fun k => atPos ER (kc c k) 0 ∅ 0) b
    ∗ (bigSep (Finset.range 12) (fun i => dutyTok ER (kc c (.snd b (f2 i))) (i / 2) 0)
      ∗ bigSep (Finset.range 12) (fun i => dutyTok ER (kc (dst b c) (.rcv b (fm i))) (i / 4) 0)
      ∗ bigSep (Finset.range 8) (fun j => dutyTok ER (kc (src b c) (.crd b)) 0 j))
    ∗ (bigSep (Finset.range 12) (fun i => writeTok ES (c, b, i) 1) ∗ bigSep (Finset.Ico 0 8) (fun j => readerAt ES (src b c, b, j + 4) 0))
    ∗ crB c b ∗ sSlots c b)

omit [FloatOps F] in
theorem dir_pre (c : Dev nD) (b : Bool) : iprop(reach0 ∗ Upto (src b c) b 0 ∗ dealt c b ∗ Upto c b 0) ⊢ (dirPre c b : sProp 𝕄) := by
  have hr12 : Finset.range 12 = Finset.Ico 0 12 := by decide
  have hr8 : Finset.range 8 = Finset.Ico 0 8 := by decide
  have h4 : (bigSep (Finset.Ico 0 (0 + 4)) (fun i => atPos ER (kc c (.rcv b (fm i))) (i / 4) ∅ 0) : sProp 𝕄)
      = iprop(atPos ER (kc c (.rcv b 0)) 0 ∅ 0 ∗ atPos ER (kc c (.rcv b 1)) 0 ∅ 0 ∗ atPos ER (kc c (.rcv b 2)) 0 ∅ 0 ∗ atPos ER (kc c (.rcv b 3)) 0 ∅ 0) :=
    bigSep_eq_bigSepL_of_eq [0, 1, 2, 3] (by decide) (by decide) _
  have hS : (Snd c b 0 : sProp 𝕄) = iprop(bigSep (Finset.Ico 0 12) (fun i => dutyTok ER (kc c (.snd b (f2 i))) (i / 2) 0)
      ∗ bigSep (Finset.Ico 0 12) (fun i => dutyTok ER (kc (dst b c) (.rcv b (fm i))) (i / 4) 0) ∗ bigSep (Finset.Ico 0 12) (fun i => writeTok ES (c, b, i) 1)) := by
    unfold Snd sendR
    rw [bigSep_sep', bigSep_sep']
  unfold dealt dirPre dirB crB sSlots Crd SFree Rcv Giv
  rw [hS, h4, hr12, hr8, bigSep_sep']
  iintro ⟨#H0, #HU, ⟨⟨HR, ⟨HS0, HS1⟩, HC⟩, ⟨Hd1, Hd2, Hd3⟩, ⟨Hw, Hrd⟩, ⟨Hc1, Hc2⟩, Hs0, Hs1⟩, HV⟩
  isplitl [Hd1 Hd2 Hw]
  · isplitl [Hd1]; · iexact Hd1
    isplitl [Hd2] <;> iassumption
  isplitl [HC Hc2 HV]
  · isplitl [HC]
    · iexists (∅ : Finset ℕ)
      isplitr; · ipureintro; exact ⟨Nat.zero_le _, Finset.empty_subset _⟩
      isplitl [HC]; · iexact HC
      rw [BI.bigSep_empty]
      iempintro
    isplitl [Hc2] <;> iassumption
  isplitl [HS0 Hs0]
  · isplitl [HS0]; · iexact HS0
    isplitr; · iapply (reach0_at (F := F) c (.snd b 0)) $$ H0
    iexact Hs0
  isplitl [HS1 Hs1]
  · isplitl [HS1]; · iexact HS1
    isplitr; · iapply (reach0_at (F := F) c (.snd b 1)) $$ H0
    iexact Hs1
  isplitl [HR Hc1]
  · isplitl [HR] <;> iassumption
  isplitl [Hd3 Hrd]
  · isplitl [Hd3] <;> iassumption
  isplitr; · iexact HU
  iapply (reach0_at (F := F) (src b c) (.crd b)) $$ H0

/-! ## The end -/

/-- A cell past its last round is closed. -/
theorem close_at (c : Dev nD) (k : CK) (R : ℕ) (hR : ∀ r, R ≤ r → dutiesK k r = ∅) :
    iprop(Recs m κ ζ ∗ atPos ER (kc c k) R ∅ 0) ⊢ (|={Set.univ}=> semVal (kc c k) 0 : sProp 𝕄) := by
  iintro ⟨HR, Hat⟩
  ihave HI := (Recs_cell m κ ζ c k) $$ HR
  iapply (Rounds.cell_close ER (Rd m) (Set.mem_univ (κ (c, k))) (fun h => h) (R := R) (fun r hr => by rw [duties_kc]; exact hR r hr)) $$ [HI Hat]
  isplitl [HI] <;> iassumption

theorem crd_duties (c : Dev nD) (b : Bool) : (Rd (F := F) m).duties (kc c (.crd b)) 0 = Finset.range 8 := by
  rw [duties_kc]; unfold dutiesK; exact if_pos rfl
theorem crd_expect (c : Dev nD) (b : Bool) : 8 = (Rd (F := F) m).expect (kc c (.crd b)) 0 := by
  have e : dutiesK (.crd b) 0 = Finset.range 8 := by unfold dutiesK; exact if_pos rfl
  rw [expect_kc, e, Finset.card_range]; rfl

/-- The credit cell with every credit taken is closed. -/
theorem close_crd (c : Dev nD) (b : Bool) : iprop(Recs m κ ζ ∗ Crd c b 8) ⊢ (|={Set.univ}=> semVal (kc c (.crd b)) 0 : sProp 𝕄) := by
  unfold Crd
  iintro ⟨#HR, ⟨%T, %hT, Hat, -⟩, -⟩
  have hTe : T = Finset.range 8 := Finset.eq_of_subset_of_card_le hT.2 (by rw [Finset.card_range]; exact hT.1)
  ihave #HI := (Recs_cell m κ ζ c (.crd b)) $$ HR
  imod (Rounds.fupd_skip ER (Rd m) (T := T) (m := 8) (g := kc c (.crd b)) (R := 0) (κ := κ (c, .crd b))
    (by rw [crd_duties, hTe]) (crd_expect m c b) (Set.mem_univ _)) $$ [Hat] with ⟨Hat, -⟩
  · isplitr; · iexact HI
    iexact Hat
  iapply (close_at m κ ζ c (.crd b) 1 (fun r hr => by unfold dutiesK; exact if_neg (by omega))) $$ [Hat]
  isplitr; · iexact HR
  iexact Hat

/-- Every cell of direction `b` is closed, its send slots are back. -/
theorem dir_post (c : Dev nD) (b : Bool) :
    iprop(Recs m κ ζ ∗ dirPost c b) ⊢ (|={Set.univ}=> (dirB (fun k => semVal (kc c k) 0) b ∗ sSlots c b) : sProp 𝕄) := by
  have h4 : (bigSep (Finset.Ico 12 (12 + 4)) (fun i => atPos ER (kc c (.rcv b (fm i))) (i / 4) ∅ 0) : sProp 𝕄)
      = iprop(atPos ER (kc c (.rcv b 0)) 3 ∅ 0 ∗ atPos ER (kc c (.rcv b 1)) 3 ∅ 0 ∗ atPos ER (kc c (.rcv b 2)) 3 ∅ 0 ∗ atPos ER (kc c (.rcv b 3)) 3 ∅ 0) :=
    (bigSep_eq_bigSepL_of_eq [12, 13, 14, 15] (by decide) (by decide) _).trans (by
      show iprop(atPos ER (kc c (.rcv b (fm 12))) (12 / 4) ∅ 0 ∗ atPos ER (kc c (.rcv b (fm 13))) (13 / 4) ∅ 0 ∗ atPos ER (kc c (.rcv b (fm 14))) (14 / 4) ∅ 0 ∗ atPos ER (kc c (.rcv b (fm 15))) (15 / 4) ∅ 0) = _
      rw [show fm 12 = 0 from by decide, show fm 13 = 1 from by decide, show fm 14 = 2 from by decide, show fm 15 = 3 from by decide])
  have hr (i : Fin 4) : ∀ r, 3 ≤ r → dutiesK (.rcv b i) r = ∅ := fun r hr => by unfold dutiesK; exact if_neg (by omega)
  have hs (i : Fin 2) : ∀ r, 6 ≤ r → dutiesK (.snd b i) r = ∅ := fun r hr => by unfold dutiesK; exact if_neg (by omega)
  unfold dirPost SFree Rcv dirB sSlots
  rw [h4]
  iintro ⟨#HR, HC, ⟨HS0, -, Hs0⟩, ⟨HS1, -, Hs1⟩, ⟨H0, H1, H2, H3⟩, -⟩
  imod (close_crd m κ ζ c b) $$ [HC] with HC
  · isplitr; · iexact HR
    iexact HC
  imod (close_at m κ ζ c (.snd b 0) 6 (hs 0)) $$ [HS0] with HS0
  · isplitr; · iexact HR
    iexact HS0
  imod (close_at m κ ζ c (.snd b 1) 6 (hs 1)) $$ [HS1] with HS1
  · isplitr; · iexact HR
    iexact HS1
  imod (close_at m κ ζ c (.rcv b 0) 3 (hr 0)) $$ [H0] with H0
  · isplitr; · iexact HR
    iexact H0
  imod (close_at m κ ζ c (.rcv b 1) 3 (hr 1)) $$ [H1] with H1
  · isplitr; · iexact HR
    iexact H1
  imod (close_at m κ ζ c (.rcv b 2) 3 (hr 2)) $$ [H2] with H2
  · isplitr; · iexact HR
    iexact H2
  imod (close_at m κ ζ c (.rcv b 3) 3 (hr 3)) $$ [H3] with H3
  · isplitr; · iexact HR
    iexact H3
  imodintro
  isplitr [Hs0 Hs1]
  · isplitl [H0 H1 H2 H3]
    · isplitl [H0]; · iexact H0
      isplitl [H1]; · iexact H1
      isplitl [H2] <;> iassumption
    isplitl [HS0 HS1]; · (isplitl [HS0] <;> iassumption)
    iexact HC
  · isplitl [Hs0] <;> iassumption

end Cert.KernelIdeal.Ring

end
-- ==== Proof.ILaunch.lean ====
/-
The launch: the body from what the launch deals a device to what the exit takes back, and the run of @main.
-/
module

public import proofs.«01_k».proof.Proof.IEnter
public import Idealize.ShloMosaic.Lib.Pipeline.CollectiveSegs

@[expose] public section

noncomputable section

namespace Cert.KernelIdeal.Ring

open Cert.KernelIdeal Cert.KernelIdeal.Gen Cert.Hold
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf launchCred)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

/-! ## The scales -/

/-- The scale of `x` as staged; -/
def sxB (c : Dev nD) : (cc0_stg0_0 : Ref sig .tc).ty.Contents (Elt F) := (win0_0.blk t0_0).view.read (Elt F) (m ((c : Thread nD τ).loc main_arg2))
/-- that of `w`. -/
def swB (c : Dev nD) : (cc0_stg1_0 : Ref sig .tc).ty.Contents (Elt F) := (win0_1.blk t0_0).view.read (Elt F) (m ((c : Thread nD τ).loc main_arg3))
/-- The one index of a scale. -/
def z1 : S1.Idx := fun a => match a with | ⟨0, _⟩ => (0 : Fin 1)
theorem s1_eq (x y : S1.Idx) : x = y := funext fun a => match a with
  | ⟨0, _⟩ => Fin.ext (by
    have hx : (x 0 : ℕ) < 1 := (x 0).isLt
    have hy : (y 0 : ℕ) < 1 := (y 0).isLt
    show (x 0 : ℕ) = (y 0 : ℕ)
    omega)
/-- The product of the scales. -/
def sc (c : Dev nD) : F .f32 := k0_pay1 (sxB m c z1) (swB m c z1)

theorem read_stg0 (f : (cc0_stg0_0 : Ref sig .tc).ty.Contents (Elt F)) (x) : ((Memref.whole cc0_stg0_0 : Memref sig .tc .smem S1 .f32).access rS).read (Elt F) f x = f z1 := by
  rw [s1_eq x z1]
  exact congrFun (Memref.read_access_unit_zero (Elt F) cc0_stg0_0 (funext fun a => match a with | ⟨0, _⟩ => rfl) _ f) z1
theorem read_stg1 (f : (cc0_stg1_0 : Ref sig .tc).ty.Contents (Elt F)) (x) : ((Memref.whole cc0_stg1_0 : Memref sig .tc .smem S1 .f32).access rS).read (Elt F) f x = f z1 := by
  rw [s1_eq x z1]
  exact congrFun (Memref.read_access_unit_zero (Elt F) cc0_stg1_0 (funext fun a => match a with | ⟨0, _⟩ => rfl) _ f) z1

/-! ## The body -/

/-- The arrays at their launch contents. -/
def arrs₀ (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1)))
/-- What device `c` starts from, buffers aside; -/
def start (c : Dev nD) : sProp 𝕄 :=
  iprop(G' m c ∗ levAts L lv ∗ launchCred (fun d => owedAt d 0) c ∗ arrs₀ m c ∗ ((c : Thread nD τ).loc main_v1 ↦{fullShare} m ((c : Thread nD τ).loc main_v1)))
/-- with its scratch buffers. -/
def Φ₀ (c : Dev nD) : sProp 𝕄 := iprop(start m c ∗ Pipeline.scopedRest cfg0.spec c)
/-- The arrays at the end. -/
def arrs₁ (c : Dev nD) : sProp 𝕄 :=
  iprop(arrs₀ m c ∗ ((c : Thread nD τ).loc main_v1 ↦{fullShare} (outY m (sc m c) c : Buf (Elt F) ((c : Thread nD τ).loc main_v1))))
/-- What it ends with. -/
def Φ₁ (c : Dev nD) : sProp 𝕄 :=
  iprop((arrs₁ m c ∗ unscopedSems0 c) ∗ Pipeline.ownSems0 osem c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => sxB m c
    | ⟨1, _⟩ => swB m c
  Φ t := match t with
    | ⟨0, _⟩ => Φ₀ m c
    | ⟨_ + 1, _⟩ => Φ₁ m c
  q _ := fullShare
  owed t := match t with
    | ⟨0, _⟩ => owedAt c 0
    | ⟨_ + 1, _⟩ => 0

omit [FloatOps F] in
theorem two_dirs (Φ : Bool → sProp 𝕄) : bigSep Finset.univ Φ = iprop(Φ false ∗ Φ true) := bigSep_univ_eq_bigSepL [false, true] (by decide) (by decide) Φ

/-- A device enters: its fresh receive slots are given to the senders. -/
theorem entered (c : Dev nD) :
    iprop(start m c ∗ Pipeline.scopedRest cfg0.spec c)
      ⊢ (|={Set.univ}=> ∃ κ : Dev nD × CK → ℕ, ∃ ζ : KeyT → ℕ, Recs m κ ζ
        ∗ (dutyTok ER (kc (src false c) .bar) 0 false.toNat ∗ dutyTok ER (kc (src true c) .bar) 0 true.toNat
          ∗ reached ER (kc (src false c) .bar) 0 ∗ reached ER (kc (src true c) .bar) 0
          ∗ atPos ER (kc c .bar) 0 ∅ 0 ∗ cred (tallyAt (kc c .bar) 0 2) ∗ Upto (src false c) false 0 ∗ Upto (src true c) true 0)
        ∗ (Ow c 2 ∗ Upto c false 0 ∗ Upto c true 0 -∗ ringPre m c) : sProp 𝕄) := by
  unfold start G' mine known
  rw [← work_eq m c, ck_dir, two_dirs, two_dirs]
  unfold payT sltT arrs₀
  rw [← arrs_eq m c, first4 (fun i => (readerAt ES (src false c, false, i) 0 : sProp 𝕄)), first4 (fun i => (readerAt ES (src true c, true, i) 0 : sProp 𝕄))]
  unfold Work Rslots Sslots locS
  iintro ⟨⟨⟨⟨%κ, #HI⟩, ⟨#Hr0, ⟨%ζ, #HZ⟩⟩, ⟨⟨Hbar, HDf, HDt⟩, ⟨⟨Hbf, Htf⟩, ⟨Hbt, Htt⟩⟩, ⟨Hwf, Hrf, Hrf'⟩, ⟨Hwt, Hrt, Hrt'⟩⟩, HlX, HlW, HlO⟩, #Hlev, Hcr, Harr, Hres⟩, H5, H6, H7, H8, ⟨Hsf, Hst⟩, ⟨Hqf, Hqt⟩⟩
  ihave #HR := (show iprop(bigSep Finset.univ (fun p : Dev nD × CK => cellInv ER (Rd m) (κ p) (kc p.1 p.2))
      ∗ bigSep keys (fun k => slotInv ES (ζ k) k (slotOf k)) ∗ levAts L lv) ⊢ (Recs m κ ζ : sProp 𝕄) from Entails.of_eq rfl) $$ []
  · isplitr; · iexact HI
    isplitr; · iexact HZ
    iexact Hlev
  ihave Hcr := (creds (F := F) c) $$ Hcr
  icases Hcr with ⟨Hc, Hcf, Hct⟩
  ihave #H0 := (Entails.of_eq (show bigSep Finset.univ (fun p : Dev nD × CK => (reached ER (kc p.1 p.2) 0 : sProp 𝕄)) = reach0 from rfl)) $$ Hr0
  imod (enter m κ ζ c false) $$ [Hrf Hqf] with #HUf
  · isplitr; · iexact HR
    isplitr; · iexact H0
    isplitl [Hrf]; · iexact Hrf
    unfold rSlots; iexact Hqf
  imod (enter m κ ζ c true) $$ [Hrt Hqt] with #HUt
  · isplitr; · iexact HR
    isplitr; · iexact H0
    isplitl [Hrt]; · iexact Hrt
    unfold rSlots; iexact Hqt
  imodintro
  iexists κ
  iexists ζ
  isplitr; · iexact HR
  isplitl [Hbf Hbt Hbar Hc]
  · isplitl [Hbf]; · iexact Hbf
    isplitl [Hbt]; · iexact Hbt
    isplitr; · iapply (reach0_at (F := F) (src false c) .bar) $$ H0
    isplitr; · iapply (reach0_at (F := F) (src true c) .bar) $$ H0
    isplitl [Hbar]; · iexact Hbar
    isplitl [Hc]; · iexact Hc
    isplitr; · iexact HUf
    iexact HUt
  iintro ⟨HO, HVf, HVt⟩
  ihave Hf := (dir_pre (F := F) c false) $$ [HDf Htf Hwf Hrf' Hcf Hsf HVf]
  · isplitr; · iexact H0
    isplitr; · iexact HUf
    isplitr [HVf]
    · unfold dealt sSlots
      isplitl [HDf]; · iexact HDf
      isplitl [Htf]; · iexact Htf
      isplitl [Hwf Hrf']; · (isplitl [Hwf] <;> iassumption)
      isplitl [Hcf]; · iexact Hcf
      iexact Hsf
    iexact HVf
  ihave Ht := (dir_pre (F := F) c true) $$ [HDt Htt Hwt Hrt' Hct Hst HVt]
  · isplitr; · iexact H0
    isplitr; · iexact HUt
    isplitr [HVt]
    · unfold dealt sSlots
      isplitl [HDt]; · iexact HDt
      isplitl [Htt]; · iexact Htt
      isplitl [Hwt Hrt']; · (isplitl [Hwt] <;> iassumption)
      isplitl [Hct]; · iexact Hct
      iexact Hst
    iexact HVt
  ihave HY := (res_any m c) $$ Hres
  unfold dirPre Arrs
  icases Hf with ⟨F1, F2, F3, F4, F5, F6⟩
  icases Ht with ⟨T1, T2, T3, T4, T5, T6⟩
  icases Harr with ⟨HX, HW⟩
  unfold ringPre Snd2 Crd2 SF2 Rcv2 Giv2
  isplitl [HO F1 F2 F3 F4 F5 F6 T1 T2 T3 T4 T5 T6]
  · isplitl [HO]; · iexact HO
    isplitl [F1 T1]; · (isplitl [F1] <;> iassumption)
    isplitl [F2 T2]; · (isplitl [F2] <;> iassumption)
    isplitl [F3 T3]; · (isplitl [F3] <;> iassumption)
    isplitl [F4 T4]; · (isplitl [F4] <;> iassumption)
    isplitl [F5 T5]; · (isplitl [F5] <;> iassumption)
    isplitl [F6] <;> iassumption
  isplitl [HX]; · iexact HX
  isplitl [HW]; · iexact HW
  isplitl [H5]; · iexact H5
  isplitl [H7]; · iexact H7
  isplitl [HY]; · iexact HY
  isplitl [H6 HlX]
  · unfold X0
    isplitl [H6] <;> iassumption
  isplitr
  · unfold X8s
    rw [BI.bigSep_empty]
    iempintro
  isplitr
  · unfold W8s
    rw [BI.bigSep_empty]
    iempintro
  isplitl [H8]; · iexact H8
  isplitl [HlW] <;> iassumption

omit [FloatOps F] in
theorem got_any (Φ : Vec F S1x1024x1024 .bf16) (c : Dev nD) (b : Bool) (i : ℕ) (r : Fin 4) (h : fm i = r) :
    (hold (c : Thread nD τ) (rcV b (fm i)) Φ : sProp 𝕄) ⊢ holdAny (c : Thread nD τ) (rcV b r) := by
  subst h
  exact hold_any (c : Thread nD τ) (rcV b (fm i)) Φ

theorem got_slots (c : Dev nD) : iprop(Got2 m c 8 ∗ Got2 m c 9 ∗ Got2 m c 10 ∗ Got2 m c 11) ⊢ (Rslots c : sProp 𝕄) := by
  unfold Got2 Got Rslots
  iintro ⟨⟨⟨A0, -⟩, B0, -⟩, ⟨⟨A1, -⟩, B1, -⟩, ⟨⟨A2, -⟩, B2, -⟩, ⟨⟨A3, -⟩, B3, -⟩⟩
  isplitl [A0 A1 A2 A3]
  · isplitl [A0]; · iapply (got_any _ c false 8 0 (by decide)) $$ A0
    isplitl [A1]; · iapply (got_any _ c false 9 1 (by decide)) $$ A1
    isplitl [A2]; · iapply (got_any _ c false 10 2 (by decide)) $$ A2
    iapply (got_any _ c false 11 3 (by decide)) $$ A3
  · isplitl [B0]; · iapply (got_any _ c true 8 0 (by decide)) $$ B0
    isplitl [B1]; · iapply (got_any _ c true 9 1 (by decide)) $$ B1
    isplitl [B2]; · iapply (got_any _ c true 10 2 (by decide)) $$ B2
    iapply (got_any _ c true 11 3 (by decide)) $$ B3

theorem x8_any (c : Dev nD) : X8s m c (insert 0 (insert 2 (insert 1 (insert 3 ∅))))
    ⊢ (iprop(holdAny (c : Thread nD τ) (A5.access (chunkR c 0)) ∗ holdAny (c : Thread nD τ) (A5.access (chunkR c 1))
      ∗ holdAny (c : Thread nD τ) (A5.access (chunkR c 2)) ∗ holdAny (c : Thread nD τ) (A5.access (chunkR c 3))) : sProp 𝕄) := by
  unfold X8s
  have h : (bigSep (insert 0 (insert 2 (insert 1 (insert 3 ∅)))) (fun j => hold (c : Thread nD τ) (A5.access (chunkR c j)) (x8 m c j)) : sProp 𝕄)
      ⊢ bigSep (insert 0 (insert 2 (insert 1 (insert 3 ∅)))) (fun j => holdAny (c : Thread nD τ) (A5.access (chunkR c j))) :=
    bigSep_mono fun j _ => hold_any (c : Thread nD τ) (A5.access (chunkR c j)) (x8 m c j)
  refine h.trans (Entails.of_eq ?_)
  exact bigSep_eq_bigSepL_of_eq [0, 1, 2, 3] (by decide) (by decide) _

theorem w8_any (c : Dev nD) : W8s m c (insert 3 (insert 2 (insert 1 (insert 0 ∅))))
    ⊢ (iprop(holdAny (c : Thread nD τ) (A7.access (tileR 0)) ∗ holdAny (c : Thread nD τ) (A7.access (tileR 1))
      ∗ holdAny (c : Thread nD τ) (A7.access (tileR 2)) ∗ holdAny (c : Thread nD τ) (A7.access (tileR 3))) : sProp 𝕄) := by
  unfold W8s
  have h : (bigSep (insert 3 (insert 2 (insert 1 (insert 0 ∅)))) (fun t => hold (c : Thread nD τ) (A7.access (tileR t)) (w8 m c t)) : sProp 𝕄)
      ⊢ bigSep (insert 3 (insert 2 (insert 1 (insert 0 ∅)))) (fun t => holdAny (c : Thread nD τ) (A7.access (tileR t))) :=
    bigSep_mono fun t _ => hold_any (c : Thread nD τ) (A7.access (tileR t)) (w8 m c t)
  refine h.trans (Entails.of_eq ?_)
  exact bigSep_eq_bigSepL_of_eq [0, 1, 2, 3] (by decide) (by decide) _

/-- A device leaves: every cell closed, every buffer whole. -/
theorem leaves (κ : Dev nD × CK → ℕ) (ζ : KeyT → ℕ) (c : Dev nD) :
    iprop(Recs m κ ζ ∗ atPos ER (kc c .bar) 1 ∅ 0 ∗ ringPost m (sc m c) c) ⊢ (|={Set.univ}=> (Φ₁ m c ∗ Ow c 42) : sProp 𝕄) := by
  have hb : ∀ r, 1 ≤ r → dutiesK .bar r = ∅ := fun r hr => by unfold dutiesK; exact if_neg (by omega)
  unfold ringPost Snd2 Crd2 SF2 Rcv2
  iintro ⟨#HR, Hbar, ⟨HO, -, ⟨Cf, Ct⟩, ⟨Sf0, St0⟩, ⟨Sf1, St1⟩, ⟨Rf, Rt⟩, -⟩, HX, HW, HY, HX0, H5, H7, H8, HlW, HlO, HG⟩
  imod (close_at m κ ζ c .bar 1 hb) $$ [Hbar] with Hbar
  · isplitr; · iexact HR
    iexact Hbar
  imod (dir_post m κ ζ c false) $$ [Cf Sf0 Sf1 Rf] with ⟨Df, Hsf⟩
  · isplitr; · iexact HR
    unfold dirPost
    isplitl [Cf]; · iexact Cf
    isplitl [Sf0]; · iexact Sf0
    isplitl [Sf1] <;> iassumption
  imod (dir_post m κ ζ c true) $$ [Ct St0 St1 Rt] with ⟨Dt, Hst⟩
  · isplitr; · iexact HR
    unfold dirPost
    isplitl [Ct]; · iexact Ct
    isplitl [St0]; · iexact St0
    isplitl [St1] <;> iassumption
  imodintro
  isplitr [HO]
  · unfold X0
    icases HX0 with ⟨H6, HlX⟩
    ihave Hs := (Entails.of_eq ((congrArg (fun P => iprop(P ∗ locS c)) (ck_dir (fun k => (semVal (kc c k) 0 : sProp 𝕄))).symm).trans (sems0_eq (F := F) c).symm)) $$ [Hbar Df Dt HlX HlW HlO]
    · isplitl [Hbar Df Dt]
      · isplitl [Hbar]; · iexact Hbar
        isplitl [Df] <;> iassumption
      unfold locS
      isplitl [HlX]; · iexact HlX
      isplitl [HlW] <;> iassumption
    icases Hs with ⟨Hos, Hus⟩
    unfold Φ₁ arrs₁ arrs₀
    isplitl [HX HW HY Hus]
    · isplitr [Hus]
      · isplitl [HX HW]
        · iapply (Entails.of_eq (arrs_eq m c))
          unfold Arrs
          isplitl [HX] <;> iassumption
        iapply (res_out m (sc m c) c) $$ HY
      iexact Hus
    isplitl [Hos]; · iexact Hos
    iapply (Entails.of_eq (work_eq m c))
    unfold Work Sslots
    ihave H5 := (x8_any m c) $$ H5
    ihave H7 := (w8_any m c) $$ H7
    ihave HG := (got_slots m c) $$ HG
    isplitl [H5]; · iexact H5
    isplitl [H6]; · iexact H6
    isplitl [H7]; · iexact H7
    isplitl [H8]; · iexact H8
    isplitl [Hsf Hst]
    · unfold sSlots
      isplitl [Hsf] <;> iassumption
    iexact HG
  iexact HO

theorem fetch_0 : (cfg0.win (0 : Fin 2)).fetch t0_0 = true := rfl
theorem fetch_1 : (cfg0.win (1 : Fin 2)).fetch t0_0 = true := rfl

/-- A staging buffer at known contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre (c : Dev nD) : sProp 𝕄 :=
  iprop(Φ₀ m c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt 0 t0_0.succ ∗ stg c cc0_stg0_0 (sxB m c) ∗ stg c cc0_stg1_0 (swB m c))

set_option maxHeartbeats 1000000 in
set_option maxRecDepth 60000 in
/-- The library's body obligation on device `c`. -/
theorem body_obligation (c : Dev nD) : BodyObligation (dats (F := F) m ρ 0 c) (defs₀ (F := F)) 𝒱₀ 0 Set.univ := fun t => by
  rw [fin_N0 t, bigSep_W0, bigSep_W0]
  simp only [owns_whole_eq]
  show bodyPre m ρ c ⊢ wp frame (wpE (defs₀ (F := F)) 𝒱₀ c none) Set.univ
    (cc0_body (Memref.whole main_arg0) (Memref.isWhole_whole _) (Memref.whole main_arg1) (Memref.isWhole_whole _)
            (Memref.whole cc0_stg0_0) (Memref.isWhole_whole _) (Memref.whole cc0_stg1_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) cc0_scratch8 cc0_scratch9 cc0_scratch10 cc0_scratch11
            cc0_scratch12 cc0_scratch13 cc0_scratch14 cc0_scratch15 cc0_scratch16) (fun _ => bodyPost m ρ c)
  unfold bodyPre Φ₀ stg
  iintro ⟨HS, Ho, ⟨%d0, %fx, %hx, Hx⟩, ⟨%d1, %fw, %hw, Hw⟩⟩
  have hx' : fx = sxB m c := by rw [hx]; unfold Dat.before; rw [if_pos fetch_0]; rfl
  have hw' : fw = swB m c := by rw [hw]; unfold Dat.before; rw [if_pos fetch_1]; rfl
  subst hx' hw'
  unfold Dat.owesAt Pipeline.owesWithin
  icases Ho with ⟨%W, %hW, HO⟩
  imod (entered m c) $$ HS with ⟨%κ, %ζ, #HR, Hin, Hpre⟩
  iapply (sound_body m κ ζ (sxB m c z1) (swB m c z1) c (m _) (sxB m c) (swB m c) (read_stg0 (sxB m c)) (read_stg1 (swB m c)) fun _ => bodyPost m ρ c)
  isplitl [HO Hin Hpre Hx Hw]
  · isplitr; · iexact HR
    isplitl [HO]; · (unfold Ow; iexists W; iexact HO)
    isplitl [Hin]; · iexact Hin
    isplitl [Hx]; · iexact Hx
    isplitl [Hw]; · iexact Hw
    iexact Hpre
  iintro ⟨Hbar, Hx, Hw, Hpost⟩
  imod (leaves m κ ζ c) $$ [Hbar Hpost] with ⟨H1, HO⟩
  · isplitr; · iexact HR
    isplitl [Hbar]; · iexact Hbar
    iexact Hpost
  imodintro
  unfold bodyPost stg Ow
  rw [owedAt_end]
  icases HO with ⟨%W', HO⟩
  isplitl [H1]; · iexact H1
  isplitl [HO]
  · unfold Dat.owesAt Pipeline.owesWithin
    iexists W'
    isplitr; · (ipureintro; exact fun _ _ => Or.inl trivial)
    iexact HO
  isplitl [Hx]
  · iexists _; isplitr; · (ipureintro; rfl)
    iexact Hx
  iexists _; isplitr; · (ipureintro; rfl)
  iexact Hw

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ launchCred (fun d => owedAt d 0) c ∗ prngReg c (ρ c) ∗ G' m c)
      ⊢ (|={Set.univ}=> iprop(start m c ∗ emp) : sProp 𝕄) := by
  rw [Pipeline.unscopedRestP_none, unscopedRest0_eq]
  unfold start arrs₀
  iintro ⟨⟨Hx, Hw, Hy⟩, Hlev, Hcr, -, HG⟩
  imodintro
  isplitl
  · isplitl [HG]; · iexact HG
    isplitl [Hlev]; · iexact Hlev
    isplitl [Hcr]; · iexact Hcr
    isplitl [Hx Hw]; · (isplitl [Hx] <;> iassumption)
    iexact Hy
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem waits (c : Dev nD) : (levAts L lv : sProp 𝕄) ⊢ Pipeline.cellsWaits cfgs (dats m ρ) 0 0 c :=
  Pipeline.cellsWaits_intro cfgs (dats m ρ) 0 0 c fun w s t => by
    have hk : kindOf (.dma (((cfg0.win w).sem s) : DmaSem sig)) = none := by
      revert w s
      decide +kernel
    rcases t with ⟨_ | _, ht⟩
    · exact mayWait_at c 0 _ 0 0 (by decide) (lv_local c hk) (fun e _ => lvE_pos e)
    · exact mayWait_at c 42 _ 0 0 (by decide) (lv_local c hk) (fun e _ => lvE_pos e)

/-- What device `c`'s unstaged arrays hold at the end. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outY m (sc m c) c)
  ∧ ∀ sm : SemLoc sig, sm.isScoped .tc = false → s.sem ((c.tc : Thread nD τ), sm) = 0

omit [FloatOps F] in
/-- A buffer held whole is what the memory has there. -/
theorem pts_read (c : Dev nD) (b : Ref sig .tc) (f : Buf (Elt F) ((c : Thread nD τ).loc b)) (s' : Phys nD τ sig (Elt F)) :
    iprop(((c : Thread nD τ).loc b ↦{fullShare} f) ∗ SI s') ⊢ (iprop(⌜s'.mem.mem ((c : Thread nD τ).loc b) = f⌝ ∗ SI s') : sProp 𝕄) := by
  have h := pointsTo_read_all (Ix := ℕ) (Name := ℕ) (U := UU) (Lvl := ℕ) (Finset.univ : Finset Unit) (fun _ => (c : Thread nD τ).loc b) (fun _ => f) s'
  rw [bigSep_univ_of_subsingleton ()] at h
  refine h.trans ?_
  iintro ⟨%hh, H⟩
  isplitr; · (ipureintro; exact hh () (Finset.mem_univ _))
  iexact H

theorem read_end (c : Dev nD) (s' : Phys nD τ sig (Elt F)) :
    iprop((arrs₁ m c ∗ unscopedSems0 c) ∗ emp ∗ SI s') ⊢ (|={Set.univ}=> iprop(⌜QY m c s'.mem⌝ ∗ SI s') : sProp 𝕄) := by
  unfold arrs₁ arrs₀
  iintro ⟨⟨⟨⟨Hx, Hw⟩, Hy⟩, Hu⟩, -, HSI⟩
  ihave H := (pts_read c main_arg0 _ s') $$ [Hx HSI]
  · isplitl [Hx] <;> iassumption
  icases H with ⟨%hx, HSI⟩
  ihave H := (pts_read c main_arg1 _ s') $$ [Hw HSI]
  · isplitl [Hw] <;> iassumption
  icases H with ⟨%hw, HSI⟩
  ihave H := (pts_read c main_v1 _ s') $$ [Hy HSI]
  · isplitl [Hy] <;> iassumption
  icases H with ⟨%hy, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨hx, hw, hy⟩, hs⟩
  iexact HSI

/-- What the run leaves: the arguments as they were, the result of each device, every semaphore at zero. -/
def QR (r : PUnit × MemSt nD τ sig (Elt F)) : Prop :=
  (∀ c : Dev nD, r.2.mem ((c.tc : Thread nD τ).loc main_v1) = outY m (sc m c) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

set_option maxRecDepth 60000 in
/-- On the four devices, for any float values, from any memory with zero counters: every weakly fair execution of @main
    terminates, and every final state has each device's result at the computed contents, the arguments unchanged and
    every semaphore at zero. -/
theorem run_main : θ_run defs (onTc (τ := τ) (main (F := F))) (s₀ m ρ) (QR m) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owedAt d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR (initOf ringCells ringToks) (initSlots keys 1, (1 : Counters))) $$ HX
      icases H with ⟨HB, HX⟩
      ihave H := (own_pair_emb ((Emb.inr : Emb (US × Counters) (UB × (US × Counters))).trans embR) (initSlots keys 1) (1 : Counters)) $$ HX
      icases H with ⟨HS, -⟩
      imod (fund_ring m) $$ [HB HS] with HG
      · isplitl [HB]
        · unfold ER; iexact HB
        · unfold ES; iexact HS
      imodintro
      isplitl [HP] <;> iassumption)
    (hglob := glob m)
    (hA := fun _ _ => rfl) (hpf := fun _ k => k.elim0)
    (X := start m) (Y := fun c => iprop(arrs₁ m c ∗ unscopedSems0 c)) (Z := fun _ => iprop(emp))
    (hX := start_intro m ρ) (hin := phi0_intro m ρ) (hout := fun c => Entails.of_eq rfl)
    (QY := QY m)
    (hY := read_end m)
    (hQ := fun s h hs => ⟨fun c => ⟨(h c).2.2.1.2.2, (h c).2.2.1.1, (h c).2.2.1.2.1,
      ((h c).1 0).trans ((dats (F := F) m ρ 0 c).arrAt_in (0 : Fin 2) rfl _), ((h c).1 1).trans ((dats (F := F) m ρ 0 c).arrAt_in (1 : Fin 2) rfl _)⟩,
      sem_eq_zero hs fun c => (h c).2.2.2⟩)

end Cert.KernelIdeal.Ring

end
-- ==== Proof.IValue.lean ====
/-
What the kernel computes over the extended reals: a message holds the partial sums of the devices it has passed, a
finished entry the scaled sum over all four devices, its negative part cut off.
-/
module

public import proofs.«01_k».proof.Proof.ILaunch
public import Idealize.ShloMosaic.Lib.MatmulPlain
public import Idealize.ShloMosaic.Lib.ValueIdx
public import Idealize.ShloMosaic.Lib.Pipeline.Value

@[expose] public section

noncomputable section

namespace Cert.KernelIdeal.Ring

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-! ## The payloads at an index -/

/-- The square product. -/
theorem prod_apply (l r : Vec Ideal S1024x1024 .fp8e4m3) (a n : Fin 1024) :
    k0_pay13 (F := Ideal) l r (ix2 a n) = ∑ k : Fin 1024, l (ix2 a k) * r (ix2 k n) := by
  have h := Ideal.matmul_plain_apply (φ₁ := .fp8e4m3) (φ₂ := .fp8e4m3) none l r (constant S1024x1024 .f32 0x00000000#32) a n
  rw [constant_apply, Ideal.ofBits_zero_f32, zero_add] at h
  exact h
/-- The product with a whole tile. -/
theorem tile_apply (l : Vec Ideal S1024x1024 .fp8e4m3) (r : Vec Ideal S1024x2048 .fp8e4m3) (a : Fin 1024) (n : Fin 2048) :
    k0_pay47 (F := Ideal) l r (ix2 a n) = ∑ k : Fin 1024, l (ix2 a k) * r (ix2 k n) := by
  have h := Ideal.matmul_plain_apply (φ₁ := .fp8e4m3) (φ₂ := .fp8e4m3) none l r (constant S1024x2048 .f32 0x00000000#32) a n
  rw [constant_apply, Ideal.ofBits_zero_f32, zero_add] at h
  exact h
/-- A message as stored, its leading unit axis dropped. -/
theorem store_apply (v : FVec Ideal S1024x1024 .f32) (a n : Fin 1024) : k0_pay24 (F := Ideal) v (ix3 0 a n) = v (ix2 a n) := by
  refine (shapeCast_addUnit_apply ![1024, 1024] _ shapeCasts_S1024x1024_S1x1024x1024 (ix3 0 a n)).trans ?_
  show v _ = v _
  exact congrArg v (funext fun i => match i with | ⟨0, _⟩ => rfl | ⟨1, _⟩ => rfl)
/-- A message as read. -/
theorem load_apply (v : Vec Ideal S1x1024x1024 .bf16) (a n : Fin 1024) : k0_pay48 (F := Ideal) v (ix2 a n) = v (ix3 0 a n) := by
  refine (shapeCast_dropUnit_apply ![1024, 1024] v shapeCasts_S1x1024x1024_S1024x1024 (ix2 a n)).trans ?_
  exact congrArg v (funext fun i => match i with | ⟨0, _⟩ => rfl | ⟨1, _⟩ => rfl | ⟨2, _⟩ => rfl)
/-- What was received added to a partial product. -/
theorem plus_apply (p : FVec Ideal S1024x1024 .f32) (v : Vec Ideal S1x1024x1024 .bf16) (a n : Fin 1024) :
    k0_pay21 (F := Ideal) p v (ix2 a n) = p (ix2 a n) + v (ix3 0 a n) :=
  congrArg (p (ix2 a n) + ·) (load_apply v a n)

/-- A block of `x` as the product reads it is the block; -/
theorem cast_x (v : Vec Ideal S1024x1024 .f32) : k0_pay2 (F := Ideal) v = v := by
  unfold k0_pay2
  exact shapeCast_self _ shapeCasts_S1024x1024_S1024x1024
/-- a tile of `w` is the tile. -/
theorem cast_w (v : Vec Ideal S1024x2048 .f32) : k0_pay4 (F := Ideal) v = v := by
  unfold k0_pay4
  exact shapeCast_self _ shapeCasts_S1024x2048_S1024x2048

/-! ## Blocks and partial sums -/

/-- Device `q`'s part of the entry at row `r` and column `n` of the product. -/
def part (q : Dev nD) (r : Fin 4096) (n : Fin 8192) : EReal := ∑ k : Fin 1024, X m q (ix2 r k) * Wt m q (ix2 k n)
/-- A row of the block that belongs to device `c`; -/
def rowOf (c : ℕ) (a : Fin 1024) : Fin 4096 := ⟨1024 * (c % 4) + a, by omega⟩
/-- a column of half `b` of tile `t`. -/
def colOf (t : Fin 4) (b : Bool) (n : Fin 1024) : Fin 8192 := ⟨2048 * t.val + (1024 * b.toNat + n), by cases b <;> simp [Bool.toNat] <;> omega⟩

theorem x8_apply (q : Dev nD) (j : ℕ) (a k : Fin 1024) : x8 m q j (ix2 a k) = X m q (ix2 (rowOf (q.val + j) a) k) := by
  refine (congrFun (cast_x (xs m q j)) (ix2 a k)).trans ?_
  show X m q ((chunkR q j).emb (ix2 a k)) = _
  refine congrArg (X m q) (funext fun i => ?_)
  match i with
  | ⟨0, _⟩ => exact Fin.ext (by show 1024 * ((q.val + j) % 4) + 1 * a.val = 1024 * ((q.val + j) % 4) + a.val; omega)
  | ⟨1, _⟩ => exact Fin.ext (by show 0 + 1 * k.val = k.val; omega)
theorem w8_apply (q : Dev nD) (t : Fin 4) (k : Fin 1024) (b : Bool) (n : Fin 1024) (y : Fin 2048) (hy : y.val = 1024 * b.toNat + n.val) :
    w8 m q t (ix2 k y) = Wt m q (ix2 k (colOf t b n)) := by
  refine (congrFun (cast_w (ws m q t)) (ix2 k y)).trans ?_
  show Wt m q ((tileR t).emb (ix2 k y)) = _
  refine congrArg (Wt m q) (funext fun i => ?_)
  match i with
  | ⟨0, _⟩ => exact Fin.ext (by show 0 + 1 * k.val = k.val; omega)
  | ⟨1, _⟩ => exact Fin.ext (by show 2048 * t.val + 1 * y.val = 2048 * t.val + (1024 * b.toNat + n.val); omega)
theorem wh_apply (q : Dev nD) (t : Fin 4) (b : Bool) (k n : Fin 1024) : wh m q t b (ix2 k n) = Wt m q (ix2 k (colOf t b n)) := by
  have h : (halfR b).emb (ix2 k n) = ix2 (n0 := 1024) (n1 := 2048) k ⟨1024 * b.toNat + n.val, by cases b <;> simp [Bool.toNat] <;> omega⟩ :=
    funext fun i => match i with
    | ⟨0, _⟩ => Fin.ext (half_val0 b (ix2 k n))
    | ⟨1, _⟩ => Fin.ext (half_val1 b (ix2 k n))
  show w8 m q t ((halfR b).emb (ix2 k n)) = _
  rw [h]
  exact w8_apply m q t k b n _ rfl

/-- The partial product a device adds to a message. -/
theorem part_apply (q : Dev nD) (j : ℕ) (t : Fin 4) (b : Bool) (a n : Fin 1024) :
    k0_pay13 (F := Ideal) (x8 m q j) (wh m q t b) (ix2 a n) = part m q (rowOf (q.val + j) a) (colOf t b n) := by
  rw [prod_apply]
  exact Finset.sum_congr rfl fun k _ => by rw [x8_apply, wh_apply]
/-- Its part of its own rows. -/
theorem own_apply (c : Dev nD) (t : Fin 4) (b : Bool) (a n : Fin 1024) (y : Fin 2048) (hy : y.val = 1024 * b.toNat + n.val) :
    k0_pay47 (F := Ideal) (x8 m c 0) (w8 m c t) (ix2 a y) = part m c (rowOf c.val a) (colOf t b n) := by
  rw [tile_apply]
  exact Finset.sum_congr rfl fun k _ => by rw [x8_apply, w8_apply m c t k b n y hy]; rfl

/-- A message of the first stage; -/
theorem msg_zero (b : Bool) (t : Fin 4) (q : Dev nD) (a n : Fin 1024) :
    msgS m b t 0 q (ix3 0 a n) = part m q (rowOf (q.val + jS b 0) a) (colOf t b n) := by
  unfold msgS
  rw [store_apply, part_apply]
/-- of a later one. -/
theorem msg_succ (b : Bool) (t : Fin 4) (s : ℕ) (q : Dev nD) (a n : Fin 1024) :
    msgS m b t (s + 1) q (ix3 0 a n)
      = part m q (rowOf (q.val + jS b (s + 1)) a) (colOf t b n) + msgS m b t s (src b q) (ix3 0 a n) := by
  rw [msgS, store_apply, plus_apply, part_apply]

theorem row_src : ∀ (b : Bool) (c : Dev nD),
    ((src b c).val + jS b 2) % 4 = c.val % 4 ∧ ((src b (src b c)).val + jS b 1) % 4 = c.val % 4
      ∧ ((src b (src b (src b c))).val + jS b 0) % 4 = c.val % 4 := by decide
theorem rowOf_congr {i j : ℕ} (h : i % 4 = j % 4) (a : Fin 1024) : rowOf i a = rowOf j a := Fin.ext (by
  show 1024 * (i % 4) + a.val = 1024 * (j % 4) + a.val; rw [h])

/-- The last message a device receives holds the other three devices' parts of its rows. -/
theorem msg_last (b : Bool) (t : Fin 4) (c : Dev nD) (a n : Fin 1024) :
    msgS m b t 2 (src b c) (ix3 0 a n)
      = part m (src b c) (rowOf c.val a) (colOf t b n)
        + (part m (src b (src b c)) (rowOf c.val a) (colOf t b n) + part m (src b (src b (src b c))) (rowOf c.val a) (colOf t b n)) := by
  obtain ⟨h2, h1, h0⟩ := row_src b c
  rw [msg_succ, msg_succ, msg_zero, rowOf_congr h2, rowOf_congr h1, rowOf_congr h0]

/-- A device and the three behind it are all four. -/
theorem four_sum (f : Dev nD → EReal) (b : Bool) (c : Dev nD) :
    f c + (f (src b c) + (f (src b (src b c)) + f (src b (src b (src b c))))) = ∑ q : Dev nD, f q := by
  have h : ∀ (b : Bool) (c : Dev nD), ([c, src b c, src b (src b c), src b (src b (src b c))] : List (Fin 4)).Perm [0, 1, 2, 3] := by decide
  have h' := ((h b c).map f).sum_eq
  simp only [List.map_cons, List.map_nil, List.sum_cons, List.sum_nil, add_zero] at h'
  rw [h']
  refine Eq.trans ?_ (Fin.sum_univ_four f).symm
  simp only [add_assoc]

/-- The whole entry. -/
def entry (r : Fin 4096) (n : Fin 8192) : EReal := ∑ q : Dev nD, part m q r n

/-- An entry of a finished half tile. -/
theorem outH_apply (s : Ideal .f32) (c : Dev nD) (t : Fin 4) (b : Bool) (a n : Fin 1024) :
    outH m s c t b (ix2 a n) = max (entry m (rowOf c.val a) (colOf t b n) * s) 0 := by
  have hz : (Scalar.ofBits (F := Ideal) .f32 0x00000000#32 : EReal) = 0 := Ideal.ofBits_zero_f32
  have key (y : Fin 2048) (hy : y.val = 1024 * b.toNat + n.val) :
      max ((k0_pay47 (F := Ideal) (x8 m c 0) (w8 m c t) (ix2 a y) + k0_pay48 (msgS m b t 2 (src b c)) (ix2 a n)) * s) (Scalar.ofBits (F := Ideal) .f32 0x00000000#32 : EReal)
        = max (entry m (rowOf c.val a) (colOf t b n) * s) 0 := by
    rw [own_apply m c t b a n y hy, load_apply, msg_last, hz, four_sum (fun q => part m q (rowOf c.val a) (colOf t b n)) b c]
    rfl
  cases b with
  | false =>
    unfold outH k0_pay49
    dsimp only
    rw [shapeCast_self]
    refine Eq.trans ?_ (key ⟨n.val, by omega⟩ (by simp [Bool.toNat]))
    refine congrArg (fun y => max ((k0_pay47 (F := Ideal) (x8 m c 0) (w8 m c t) y + k0_pay48 (msgS m false t 2 (src false c)) (ix2 a n)) * s) (Scalar.ofBits (F := Ideal) .f32 0x00000000#32 : EReal)) (funext fun i => ?_)
    match i with
    | ⟨0, _⟩ => exact Fin.ext (Nat.zero_add _)
    | ⟨1, _⟩ => exact Fin.ext (Nat.zero_add _)
  | true =>
    unfold outH k0_pay50
    dsimp only
    rw [shapeCast_self]
    refine Eq.trans ?_ (key ⟨1024 + n.val, by omega⟩ (by simp [Bool.toNat]))
    refine congrArg (fun y => max ((k0_pay47 (F := Ideal) (x8 m c 0) (w8 m c t) y + k0_pay48 (msgS m true t 2 (src true c)) (ix2 a n)) * s) (Scalar.ofBits (F := Ideal) .f32 0x00000000#32 : EReal)) (funext fun i => ?_)
    match i with
    | ⟨0, _⟩ => exact Fin.ext (Nat.zero_add _)
    | ⟨1, _⟩ => rfl

/-- An entry of the result. -/
theorem outY_apply (s : Ideal .f32) (c : Dev nD) (a : Fin 1024) (n : Fin 8192) :
    outY m s c (ix2 a n) = max (entry m (rowOf c.val a) n * s) 0 := by
  have hn : n.val < 8192 := n.isLt
  have hi : halfIdx (ix2 (n0 := 1024) (n1 := 2048) a ⟨n.val % 2048, Nat.mod_lt _ (by decide)⟩)
      = ix2 (n0 := 1024) (n1 := 1024) a ⟨n.val % 2048 % 1024, Nat.mod_lt _ (by decide)⟩ :=
    funext fun i => match i with | ⟨0, _⟩ => rfl | ⟨1, _⟩ => rfl
  have hc : colOf ⟨n.val / 2048, by omega⟩ (decide (1024 ≤ n.val % 2048)) ⟨n.val % 2048 % 1024, Nat.mod_lt _ (by decide)⟩ = n := Fin.ext (by
    show 2048 * (n.val / 2048) + (1024 * (decide (1024 ≤ n.val % 2048)).toNat + n.val % 2048 % 1024) = n.val
    by_cases h : 1024 ≤ n.val % 2048
    · rw [decide_eq_true h, Bool.toNat_true]; omega
    · rw [decide_eq_false h, Bool.toNat_false]; omega)
  have h := outH_apply m s c ⟨n.val / 2048, by omega⟩ (decide (1024 ≤ n.val % 2048)) a ⟨n.val % 2048 % 1024, Nat.mod_lt _ (by decide)⟩
  rw [hc, ← hi] at h
  refine Eq.trans ?_ h
  refine congrArg (fun y => outH m s c ⟨n.val / 2048, by omega⟩ (decide (1024 ≤ n.val % 2048)) (halfIdx y)) (funext fun i => ?_)
  match i with
  | ⟨0, _⟩ => rfl
  | ⟨1, _⟩ => rfl

end Cert.KernelIdeal.Ring

end
-- ==== Proof.Equal.lean ====
/-
The equation: what the kernel leaves on a device is that device's block of rows of what the reference leaves.
-/
module

public import proofs.«01_k».proof.Proof.IValue
public import proofs.«01_k».proof.Proof.Gen.ReferenceIdeal.Run
public import Idealize.ShloMosaic.Lib.StackMember
public import Idealize.ShloMosaic.Lib.IdealHost
public import Idealize.ShloMosaic.Lib.Layout

@[expose] public section

noncomputable section

namespace Cert.Equal

open Idealize.ShloMosaic Idealize.ShloMosaic.TcCoe Idealize.ShloMosaic.ValueIdx
open scoped BigOperators

/-! ## The reference -/

section Reference
open Cert.ReferenceIdeal Cert.ReferenceIdeal.Gen

variable (A : FVec Ideal S4096x4096 .f32) (B : FVec Ideal S4096x8192 .f32) (u v : FVec Ideal S1 .f32)

/-- What the reference leaves, of its four arguments. -/
def refOut : FVec Ideal S4096x8192 .f32 :=
  maximumf (mulf (Host.dotGeneral dot_S4096x4096_S4096x8192_S4096x8192_1_0_0_1_n_n none A B)
      (broadcastInDim S4096x8192 ![0, 1] bcast_S1x1_S4096x8192_0_1 (broadcastInDim S1x1 ![1] bcast_S1_S1x1_1 (mulf u v))))
    (broadcastInDim S4096x8192 ![] bcast_S_S4096x8192 (constant S_ .f32 0x00000000#32))

/-- An entry of it: the row times the column, scaled, cut off at zero. -/
theorem refOut_apply (r : Fin 4096) (n : Fin 8192) :
    refOut A B u v (ix2 r n) = max ((∑ k : Fin 4096, A (ix2 r k) * B (ix2 k n)) * (u (ix1 0) * v (ix1 0))) 0 := by
  have hd : Host.dotGeneral dot_S4096x4096_S4096x8192_S4096x8192_1_0_0_1_n_n none A B (ix2 r n) = ∑ k : Fin 4096, A (ix2 r k) * B (ix2 k n) :=
    StackMember.dotGeneral_plain_apply (φ₁ := .f32) (φ₂ := .f32) none A B r n
  have hs : broadcastInDim S4096x8192 ![0, 1] bcast_S1x1_S4096x8192_0_1 (broadcastInDim S1x1 ![1] bcast_S1_S1x1_1 (mulf u v)) (ix2 r n)
      = u (ix1 0) * v (ix1 0) := by
    rw [broadcastInDim_apply _ _ _ _ (ix2 (n0 := 1) (n1 := 1) 0 0) (Fin.forall_fin_two.mpr ⟨rfl, rfl⟩),
      broadcastInDim_apply _ _ _ _ (ix1 (n := 1) 0) (fun a => match a with | ⟨0, _⟩ => rfl)]
    rfl
  have hz : broadcastInDim S4096x8192 ![] bcast_S_S4096x8192 (constant (F := Ideal) S_ .f32 0x00000000#32) (ix2 r n) = (0 : EReal) := by
    rw [broadcastInDim_scalar_apply, constant_apply, Ideal.ofBits_zero_f32]
  unfold refOut
  rw [maximumf_apply, mulf_apply, hd, hs, hz]

end Reference

/-! ## A sum over all columns, block by block -/

/-- A sum over 4096 positions is the sum over the four blocks of 1024. -/
theorem sum_blocks (f : Fin 4096 → EReal) :
    ∑ k : Fin 4096, f k = ∑ q : Fin 4, ∑ k : Fin 1024, f ⟨q.val * 1024 + k.val, by omega⟩ := by
  rw [← Equiv.sum_comp (finProdFinEquiv (m := 4) (n := 1024)) f, Fintype.sum_prod_type]
  refine Finset.sum_congr rfl fun q _ => Finset.sum_congr rfl fun k _ => congrArg f (Fin.ext ?_)
  show k.val + 1024 * q.val = q.val * 1024 + k.val
  omega

/-! ## The equation -/

section Equation
open Cert.KernelIdeal Cert.KernelIdeal.Ring

variable (m : (ℓ : Loc nD τ sig) → Buf (Elt Ideal) ℓ)
variable (A : FVec Ideal ⟨2, ![4096, 4096]⟩ .f32) (B : FVec Ideal ⟨2, ![4096, 8192]⟩ .f32) (u v : FVec Ideal ⟨1, ![1]⟩ .f32)

/-- When each device holds its columns of `x`, its rows of `w` and the two scales, it leaves its rows of what the
    reference leaves. -/
theorem outY_block
    (h0 : ∀ c : Dev nD, m ((c : Thread nD τ).loc main_arg0) = Layout.block ⟨2, ![4096, 1024]⟩ ⟨2, ![4096, 4096]⟩ 1 4 c A)
    (h1 : ∀ c : Dev nD, m ((c : Thread nD τ).loc main_arg1) = Layout.block ⟨2, ![1024, 8192]⟩ ⟨2, ![4096, 8192]⟩ 0 4 c B)
    (h2 : ∀ c : Dev nD, m ((c : Thread nD τ).loc main_arg2) = u) (h3 : ∀ c : Dev nD, m ((c : Thread nD τ).loc main_arg3) = v) (c : Dev nD) :
    outY m (sc m c) c = Layout.block ⟨2, ![1024, 8192]⟩ ⟨2, ![4096, 8192]⟩ 0 4 c (refOut A B u v) := by
  have hX (q : Dev nD) (r : Fin 4096) (k : Fin 1024) : X m q (ix2 r k) = A (ix2 r ⟨q.val * 1024 + k.val, by have : q.val < 4 := q.isLt; omega⟩) := by
    show m ((q : Thread nD τ).loc main_arg0) (ix2 r k) = _
    rw [h0 q]
    exact congrArg A (funext fun i => match i with | ⟨0, _⟩ => rfl | ⟨1, _⟩ => rfl)
  have hW (q : Dev nD) (k : Fin 1024) (n : Fin 8192) : Wt m q (ix2 k n) = B (ix2 ⟨q.val * 1024 + k.val, by have : q.val < 4 := q.isLt; omega⟩ n) := by
    show m ((q : Thread nD τ).loc main_arg1) (ix2 k n) = _
    rw [h1 q]
    exact congrArg B (funext fun i => match i with | ⟨0, _⟩ => rfl | ⟨1, _⟩ => rfl)
  have hs : sc m c = u (ix1 0) * v (ix1 0) := by
    have e0 : sxB m c z1 = u (ix1 0) := by
      show m ((c : Thread nD τ).loc main_arg2) _ = _
      rw [h2 c]
      exact congrArg u (s1_eq _ _)
    have e1 : swB m c z1 = v (ix1 0) := by
      show m ((c : Thread nD τ).loc main_arg3) _ = _
      rw [h3 c]
      exact congrArg v (s1_eq _ _)
    exact congrArg₂ (fun a b : EReal => a * b) e0 e1
  funext x
  obtain ⟨a, n, rfl⟩ : ∃ (a : Fin 1024) (n : Fin 8192), x = ix2 a n := ⟨x 0, x 1, eq_ix2 x⟩
  rw [outY_apply, hs]
  have hr : Layout.Tiles.idx (S := ⟨2, ![1024, 8192]⟩) (T := ⟨2, ![4096, 8192]⟩) (a := 0) (k := 4) (by decide) c (ix2 a n)
      = ix2 (n0 := 4096) (n1 := 8192) (rowOf c.val a) n := funext fun i => match i with
    | ⟨0, _⟩ => Fin.ext (by
        have hc : c.val < 4 := c.isLt
        show c.val * 1024 + a.val = 1024 * (c.val % 4) + a.val
        rw [Nat.mod_eq_of_lt hc]; omega)
    | ⟨1, _⟩ => rfl
  rw [Layout.block_apply, hr, refOut_apply, sum_blocks]
  refine congrArg (fun y => max (y * (u (ix1 0) * v (ix1 0))) (0 : EReal)) ?_
  exact Finset.sum_congr rfl fun q _ => Finset.sum_congr rfl fun k _ => by rw [hX, hW]

end Equation

end Cert.Equal

end
-- ==== Proof.lean ====
/-
The proof of `Cert.Claim` (proofs.«01_k».proof.Defs): the kernel and its reading over the extended reals run to their end
and leave the machine as they found it, the result apart; so does the reference; and over the extended reals the kernel
leaves the reference's result, each device its rows.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KLaunch
public import proofs.«01_k».proof.Proof.Equal
public import Idealize.ShloMosaic.Adequacy
public import Idealize.ShloMosaic.Init

@[expose] public section

noncomputable section

namespace Cert.Proof

open Idealize.ShloMosaic Idealize.SL.Sem

/-- The kernel at the machine's formats runs to its end, its arguments unchanged and every semaphore back at zero. -/
theorem frame_kernel : Cert.quiescent_Kernel := fun m ρ _ =>
  (θ_run Cert.Kernel.defs _ _).mono (fun _ h => ⟨fun c => (h.1 c).2, h.2⟩) (Cert.Kernel.Ring.run_main (F := Bits) m ρ)

/-- The same of the kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The same of the reference, a line of host operations with no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device leaves its rows of what the reference leaves of the whole arrays. -/
theorem algebraic : Cert.algebraic_KernelIdeal_ReferenceIdeal := fun m ρ m' ρ' _ hagree =>
  ⟨_, (θ_run Cert.KernelIdeal.defs _ _).mono (fun _ h c => ⟨(h.1 c).1.trans
        (Cert.Equal.outY_block m _ _ _ _ (fun c => (hagree c).1) (fun c => (hagree c).2.1) (fun c => (hagree c).2.2.1) (fun c => (hagree c).2.2.2) c),
        (h.1 c).2⟩)
      (Cert.KernelIdeal.Ring.run_main (F := Ideal) m ρ),
    (θ_run Cert.ReferenceIdeal.defs _ _).mono (fun _ h => h 0) (Cert.ReferenceIdeal.Value.run (F := Ideal) m' ρ')⟩

/-- All claims together, after the facts that the programs state. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
